-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 4096]⟩ ⟨2, ![4096, 4096]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 512]⟩ ⟨2, ![4096, 2048]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x4096 : Shape := ⟨2, ![1024, 4096]⟩
abbrev S4096x2048 : Shape := ⟨2, ![4096, 2048]⟩
abbrev S1 : Shape := ⟨1, ![1]⟩
abbrev S4096x512 : Shape := ⟨2, ![4096, 512]⟩
abbrev S4x256x4096 : Shape := ⟨3, ![4, 256, 4096]⟩
abbrev S3x2048x512 : Shape := ⟨3, ![3, 2048, 512]⟩
abbrev S4x4096x512 : Shape := ⟨3, ![4, 4096, 512]⟩
abbrev S3x1024x512 : Shape := ⟨3, ![3, 1024, 512]⟩
abbrev S2x1024x512 : Shape := ⟨3, ![2, 1024, 512]⟩
abbrev S4 : Shape := ⟨1, ![4]⟩
abbrev S3 : Shape := ⟨1, ![3]⟩
abbrev S3x4 : Shape := ⟨2, ![3, 4]⟩
abbrev S2 : Shape := ⟨1, ![2]⟩
abbrev S_ : Shape := ⟨0, ![]⟩
abbrev S1x2048x512 : Shape := ⟨3, ![1, 2048, 512]⟩
abbrev S2048x512 : Shape := ⟨2, ![2048, 512]⟩
abbrev S1x256x4096 : Shape := ⟨3, ![1, 256, 4096]⟩
abbrev S256x4096 : Shape := ⟨2, ![256, 4096]⟩
abbrev S1x4096x512 : Shape := ⟨3, ![1, 4096, 512]⟩
abbrev S256x512 : Shape := ⟨2, ![256, 512]⟩
abbrev S1x256x512 : Shape := ⟨3, ![1, 256, 512]⟩
abbrev S1x1 : Shape := ⟨2, ![1, 1]⟩
abbrev S1024x512 : Shape := ⟨2, ![1024, 512]⟩
abbrev S1x1024x512 : Shape := ⟨3, ![1, 1024, 512]⟩

abbrev nBuf : Space → Nat
  | .hbm => 5
  | .vmem => 7
  | .smem => 2
  | _ => 0

abbrev bufTy : (tb : Table) → Fin (tcTables nBuf tb) → BufTy
  | .hbm, ⟨0, _⟩ => ⟨S1024x4096, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S4096x512, .f32⟩
  | .local _ .vmem, ⟨0, _⟩ => ⟨S4x256x4096, .f32⟩
  | .local _ .vmem, ⟨1, _⟩ => ⟨S3x2048x512, .f32⟩
  | .local _ .vmem, ⟨2, _⟩ => ⟨S1024x4096, .fp8e4m3⟩
  | .local _ .vmem, ⟨3, _⟩ => ⟨S4x4096x512, .fp8e5m2⟩
  | .local _ .vmem, ⟨4, _⟩ => ⟨S3x1024x512, .bf16⟩
  | .local _ .vmem, ⟨5, _⟩ => ⟨S3x1024x512, .bf16⟩
  | .local _ .vmem, ⟨6, _⟩ => ⟨S2x1024x512, .f32⟩
  | .local _ .smem, ⟨0, _⟩ => ⟨S1, .f32⟩
  | .local _ .smem, ⟨1, _⟩ => ⟨S1, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | _, _ => false

abbrev semScoped : Fin 1 → Bool
  | ⟨0, _⟩ => false
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  (ofTc nBuf bufTy 1 35 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_off1 (d0 : Dev nD) (c1_i32_29 : BitVec 32) : Fin 2 → Nat :=
  let c0_i32_40 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v46 : BitVec 32 := Scalar.addi v2 c1_i32_29
  let c4_i32_30 : BitVec 32 := 4#32
  let c0_i32_31 : BitVec 32 := 0#32
  let v47 : BitVec 1 := Scalar.cmpi .eq c4_i32_30 c0_i32_31
  let c1_i32_32 : BitVec 32 := 1#32
  let v48 : BitVec 32 := Scalar.select v47 c1_i32_32 c4_i32_30
  let v49 : BitVec 32 := Scalar.remsi v46 v48
  let c0_i32_34 : BitVec 32 := 0#32
  let v51 : BitVec 1 := Scalar.cmpi .slt v49 c0_i32_34
  let c0_i32_35 : BitVec 32 := 0#32
  let v52 : BitVec 1 := Scalar.cmpi .slt v48 c0_i32_35
  let v53 : BitVec 1 := Scalar.xori v51 v52
  let c0_i32_33 : BitVec 32 := 0#32
  let v50 : BitVec 1 := Scalar.cmpi .ne v49 c0_i32_33
  let v54 : BitVec 1 := Scalar.andi v53 v50
  let v55 : BitVec 32 := Scalar.addi v49 v48
  let v56 : BitVec 32 := Scalar.select v54 v55 v49
  let c512_i32 : BitVec 32 := 512#32
  let v57 : BitVec 32 := Scalar.muli v56 c512_i32
  ![0, v57.toNat]
def k0_off2 (d0 : Dev nD) (c1_i32_41 : BitVec 32) : Fin 2 → Nat :=
  let c2048_i32 : BitVec 32 := 2048#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v63 : BitVec 32 := Scalar.addi v2 c1_i32_41
  let c4_i32_42 : BitVec 32 := 4#32
  let c0_i32_43 : BitVec 32 := 0#32
  let v64 : BitVec 1 := Scalar.cmpi .eq c4_i32_42 c0_i32_43
  let c1_i32_44 : BitVec 32 := 1#32
  let v65 : BitVec 32 := Scalar.select v64 c1_i32_44 c4_i32_42
  let v66 : BitVec 32 := Scalar.remsi v63 v65
  let c0_i32_46 : BitVec 32 := 0#32
  let v68 : BitVec 1 := Scalar.cmpi .slt v66 c0_i32_46
  let c0_i32_47 : BitVec 32 := 0#32
  let v69 : BitVec 1 := Scalar.cmpi .slt v65 c0_i32_47
  let v70 : BitVec 1 := Scalar.xori v68 v69
  let c0_i32_45 : BitVec 32 := 0#32
  let v67 : BitVec 1 := Scalar.cmpi .ne v66 c0_i32_45
  let v71 : BitVec 1 := Scalar.andi v70 v67
  let v72 : BitVec 32 := Scalar.addi v66 v65
  let v73 : BitVec 32 := Scalar.select v71 v72 v66
  let c512_i32_48 : BitVec 32 := 512#32
  let v74 : BitVec 32 := Scalar.muli v73 c512_i32_48
  ![2048, v74.toNat]
def k0_dev4 (d0 : Dev nD) : Nat :=
  let c0_i32_162 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_140 : BitVec 32 := 1#32
  let v179 : BitVec 32 := Scalar.addi v2 c1_i32_140
  let c4_i32_141 : BitVec 32 := 4#32
  let c0_i32_142 : BitVec 32 := 0#32
  let v180 : BitVec 1 := Scalar.cmpi .eq c4_i32_141 c0_i32_142
  let c1_i32_143 : BitVec 32 := 1#32
  let v181 : BitVec 32 := Scalar.select v180 c1_i32_143 c4_i32_141
  let v182 : BitVec 32 := Scalar.remsi v179 v181
  let c0_i32_145 : BitVec 32 := 0#32
  let v184 : BitVec 1 := Scalar.cmpi .slt v182 c0_i32_145
  let c0_i32_146 : BitVec 32 := 0#32
  let v185 : BitVec 1 := Scalar.cmpi .slt v181 c0_i32_146
  let v186 : BitVec 1 := Scalar.xori v184 v185
  let c0_i32_144 : BitVec 32 := 0#32
  let v183 : BitVec 1 := Scalar.cmpi .ne v182 c0_i32_144
  let v187 : BitVec 1 := Scalar.andi v186 v183
  let v188 : BitVec 32 := Scalar.addi v182 v181
  let v189 : BitVec 32 := Scalar.select v187 v188 v182
  let c1_i32_161 : BitVec 32 := 1#32
  let v198 : BitVec 32 := Scalar.muli v189 c1_i32_161
  let v199 : BitVec 32 := Scalar.addi c0_i32_162 v198
  v199.toNat
def k0_dev5 (d0 : Dev nD) : Nat :=
  let c0_i32_237 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_214 : BitVec 32 := 3#32
  let v264 : BitVec 32 := Scalar.addi v2 c3_i32_214
  let c4_i32_215 : BitVec 32 := 4#32
  let c0_i32_216 : BitVec 32 := 0#32
  let v265 : BitVec 1 := Scalar.cmpi .eq c4_i32_215 c0_i32_216
  let c1_i32_217 : BitVec 32 := 1#32
  let v266 : BitVec 32 := Scalar.select v265 c1_i32_217 c4_i32_215
  let v267 : BitVec 32 := Scalar.remsi v264 v266
  let c0_i32_219 : BitVec 32 := 0#32
  let v269 : BitVec 1 := Scalar.cmpi .slt v267 c0_i32_219
  let c0_i32_220 : BitVec 32 := 0#32
  let v270 : BitVec 1 := Scalar.cmpi .slt v266 c0_i32_220
  let v271 : BitVec 1 := Scalar.xori v269 v270
  let c0_i32_218 : BitVec 32 := 0#32
  let v268 : BitVec 1 := Scalar.cmpi .ne v267 c0_i32_218
  let v272 : BitVec 1 := Scalar.andi v271 v268
  let v273 : BitVec 32 := Scalar.addi v267 v266
  let v274 : BitVec 32 := Scalar.select v272 v273 v267
  let c1_i32_236 : BitVec 32 := 1#32
  let v283 : BitVec 32 := Scalar.muli v274 c1_i32_236
  let v284 : BitVec 32 := Scalar.addi c0_i32_237 v283
  v284.toNat
def k0_dev6 (d0 : Dev nD) : Nat :=
  let c0_i32_280 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_257 : BitVec 32 := 1#32
  let v309 : BitVec 32 := Scalar.addi v2 c1_i32_257
  let c4_i32_258 : BitVec 32 := 4#32
  let c0_i32_259 : BitVec 32 := 0#32
  let v310 : BitVec 1 := Scalar.cmpi .eq c4_i32_258 c0_i32_259
  let c1_i32_260 : BitVec 32 := 1#32
  let v311 : BitVec 32 := Scalar.select v310 c1_i32_260 c4_i32_258
  let v312 : BitVec 32 := Scalar.remsi v309 v311
  let c0_i32_262 : BitVec 32 := 0#32
  let v314 : BitVec 1 := Scalar.cmpi .slt v312 c0_i32_262
  let c0_i32_263 : BitVec 32 := 0#32
  let v315 : BitVec 1 := Scalar.cmpi .slt v311 c0_i32_263
  let v316 : BitVec 1 := Scalar.xori v314 v315
  let c0_i32_261 : BitVec 32 := 0#32
  let v313 : BitVec 1 := Scalar.cmpi .ne v312 c0_i32_261
  let v317 : BitVec 1 := Scalar.andi v316 v313
  let v318 : BitVec 32 := Scalar.addi v312 v311
  let v319 : BitVec 32 := Scalar.select v317 v318 v312
  let c1_i32_279 : BitVec 32 := 1#32
  let v328 : BitVec 32 := Scalar.muli v319 c1_i32_279
  let v329 : BitVec 32 := Scalar.addi c0_i32_280 v328
  v329.toNat
def k0_dev7 (d0 : Dev nD) : Nat :=
  let c0_i32_308 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_285 : BitVec 32 := 3#32
  let v338 : BitVec 32 := Scalar.addi v2 c3_i32_285
  let c4_i32_286 : BitVec 32 := 4#32
  let c0_i32_287 : BitVec 32 := 0#32
  let v339 : BitVec 1 := Scalar.cmpi .eq c4_i32_286 c0_i32_287
  let c1_i32_288 : BitVec 32 := 1#32
  let v340 : BitVec 32 := Scalar.select v339 c1_i32_288 c4_i32_286
  let v341 : BitVec 32 := Scalar.remsi v338 v340
  let c0_i32_290 : BitVec 32 := 0#32
  let v343 : BitVec 1 := Scalar.cmpi .slt v341 c0_i32_290
  let c0_i32_291 : BitVec 32 := 0#32
  let v344 : BitVec 1 := Scalar.cmpi .slt v340 c0_i32_291
  let v345 : BitVec 1 := Scalar.xori v343 v344
  let c0_i32_289 : BitVec 32 := 0#32
  let v342 : BitVec 1 := Scalar.cmpi .ne v341 c0_i32_289
  let v346 : BitVec 1 := Scalar.andi v345 v342
  let v347 : BitVec 32 := Scalar.addi v341 v340
  let v348 : BitVec 32 := Scalar.select v346 v347 v341
  let c1_i32_307 : BitVec 32 := 1#32
  let v357 : BitVec 32 := Scalar.muli v348 c1_i32_307
  let v358 : BitVec 32 := Scalar.addi c0_i32_308 v357
  v358.toNat
def k0_dev8 (d0 : Dev nD) : Nat :=
  let c0_i32_346 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_323 : BitVec 32 := 1#32
  let v378 : BitVec 32 := Scalar.addi v2 c1_i32_323
  let c4_i32_324 : BitVec 32 := 4#32
  let c0_i32_325 : BitVec 32 := 0#32
  let v379 : BitVec 1 := Scalar.cmpi .eq c4_i32_324 c0_i32_325
  let c1_i32_326 : BitVec 32 := 1#32
  let v380 : BitVec 32 := Scalar.select v379 c1_i32_326 c4_i32_324
  let v381 : BitVec 32 := Scalar.remsi v378 v380
  let c0_i32_328 : BitVec 32 := 0#32
  let v383 : BitVec 1 := Scalar.cmpi .slt v381 c0_i32_328
  let c0_i32_329 : BitVec 32 := 0#32
  let v384 : BitVec 1 := Scalar.cmpi .slt v380 c0_i32_329
  let v385 : BitVec 1 := Scalar.xori v383 v384
  let c0_i32_327 : BitVec 32 := 0#32
  let v382 : BitVec 1 := Scalar.cmpi .ne v381 c0_i32_327
  let v386 : BitVec 1 := Scalar.andi v385 v382
  let v387 : BitVec 32 := Scalar.addi v381 v380
  let v388 : BitVec 32 := Scalar.select v386 v387 v381
  let c1_i32_345 : BitVec 32 := 1#32
  let v397 : BitVec 32 := Scalar.muli v388 c1_i32_345
  let v398 : BitVec 32 := Scalar.addi c0_i32_346 v397
  v398.toNat
def k0_dev9 (d0 : Dev nD) : Nat :=
  let c0_i32_374 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_351 : BitVec 32 := 3#32
  let v407 : BitVec 32 := Scalar.addi v2 c3_i32_351
  let c4_i32_352 : BitVec 32 := 4#32
  let c0_i32_353 : BitVec 32 := 0#32
  let v408 : BitVec 1 := Scalar.cmpi .eq c4_i32_352 c0_i32_353
  let c1_i32_354 : BitVec 32 := 1#32
  let v409 : BitVec 32 := Scalar.select v408 c1_i32_354 c4_i32_352
  let v410 : BitVec 32 := Scalar.remsi v407 v409
  let c0_i32_356 : BitVec 32 := 0#32
  let v412 : BitVec 1 := Scalar.cmpi .slt v410 c0_i32_356
  let c0_i32_357 : BitVec 32 := 0#32
  let v413 : BitVec 1 := Scalar.cmpi .slt v409 c0_i32_357
  let v414 : BitVec 1 := Scalar.xori v412 v413
  let c0_i32_355 : BitVec 32 := 0#32
  let v411 : BitVec 1 := Scalar.cmpi .ne v410 c0_i32_355
  let v415 : BitVec 1 := Scalar.andi v414 v411
  let v416 : BitVec 32 := Scalar.addi v410 v409
  let v417 : BitVec 32 := Scalar.select v415 v416 v410
  let c1_i32_373 : BitVec 32 := 1#32
  let v426 : BitVec 32 := Scalar.muli v417 c1_i32_373
  let v427 : BitVec 32 := Scalar.addi c0_i32_374 v426
  v427.toNat
def k0_dev10 (d0 : Dev nD) : Nat :=
  let c0_i32_411 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_388 : BitVec 32 := 1#32
  let v447 : BitVec 32 := Scalar.addi v2 c1_i32_388
  let c4_i32_389 : BitVec 32 := 4#32
  let c0_i32_390 : BitVec 32 := 0#32
  let v448 : BitVec 1 := Scalar.cmpi .eq c4_i32_389 c0_i32_390
  let c1_i32_391 : BitVec 32 := 1#32
  let v449 : BitVec 32 := Scalar.select v448 c1_i32_391 c4_i32_389
  let v450 : BitVec 32 := Scalar.remsi v447 v449
  let c0_i32_393 : BitVec 32 := 0#32
  let v452 : BitVec 1 := Scalar.cmpi .slt v450 c0_i32_393
  let c0_i32_394 : BitVec 32 := 0#32
  let v453 : BitVec 1 := Scalar.cmpi .slt v449 c0_i32_394
  let v454 : BitVec 1 := Scalar.xori v452 v453
  let c0_i32_392 : BitVec 32 := 0#32
  let v451 : BitVec 1 := Scalar.cmpi .ne v450 c0_i32_392
  let v455 : BitVec 1 := Scalar.andi v454 v451
  let v456 : BitVec 32 := Scalar.addi v450 v449
  let v457 : BitVec 32 := Scalar.select v455 v456 v450
  let c1_i32_410 : BitVec 32 := 1#32
  let v466 : BitVec 32 := Scalar.muli v457 c1_i32_410
  let v467 : BitVec 32 := Scalar.addi c0_i32_411 v466
  v467.toNat
def k0_dev11 (d0 : Dev nD) : Nat :=
  let c0_i32_439 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_416 : BitVec 32 := 3#32
  let v476 : BitVec 32 := Scalar.addi v2 c3_i32_416
  let c4_i32_417 : BitVec 32 := 4#32
  let c0_i32_418 : BitVec 32 := 0#32
  let v477 : BitVec 1 := Scalar.cmpi .eq c4_i32_417 c0_i32_418
  let c1_i32_419 : BitVec 32 := 1#32
  let v478 : BitVec 32 := Scalar.select v477 c1_i32_419 c4_i32_417
  let v479 : BitVec 32 := Scalar.remsi v476 v478
  let c0_i32_421 : BitVec 32 := 0#32
  let v481 : BitVec 1 := Scalar.cmpi .slt v479 c0_i32_421
  let c0_i32_422 : BitVec 32 := 0#32
  let v482 : BitVec 1 := Scalar.cmpi .slt v478 c0_i32_422
  let v483 : BitVec 1 := Scalar.xori v481 v482
  let c0_i32_420 : BitVec 32 := 0#32
  let v480 : BitVec 1 := Scalar.cmpi .ne v479 c0_i32_420
  let v484 : BitVec 1 := Scalar.andi v483 v480
  let v485 : BitVec 32 := Scalar.addi v479 v478
  let v486 : BitVec 32 := Scalar.select v484 v485 v479
  let c1_i32_438 : BitVec 32 := 1#32
  let v495 : BitVec 32 := Scalar.muli v486 c1_i32_438
  let v496 : BitVec 32 := Scalar.addi c0_i32_439 v495
  v496.toNat
def k0_dev12 (d0 : Dev nD) : Nat :=
  let c0_i32_502 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_479 : BitVec 32 := 2#32
  let v544 : BitVec 32 := Scalar.addi v2 c2_i32_479
  let c4_i32_480 : BitVec 32 := 4#32
  let c0_i32_481 : BitVec 32 := 0#32
  let v545 : BitVec 1 := Scalar.cmpi .eq c4_i32_480 c0_i32_481
  let c1_i32_482 : BitVec 32 := 1#32
  let v546 : BitVec 32 := Scalar.select v545 c1_i32_482 c4_i32_480
  let v547 : BitVec 32 := Scalar.remsi v544 v546
  let c0_i32_484 : BitVec 32 := 0#32
  let v549 : BitVec 1 := Scalar.cmpi .slt v547 c0_i32_484
  let c0_i32_485 : BitVec 32 := 0#32
  let v550 : BitVec 1 := Scalar.cmpi .slt v546 c0_i32_485
  let v551 : BitVec 1 := Scalar.xori v549 v550
  let c0_i32_483 : BitVec 32 := 0#32
  let v548 : BitVec 1 := Scalar.cmpi .ne v547 c0_i32_483
  let v552 : BitVec 1 := Scalar.andi v551 v548
  let v553 : BitVec 32 := Scalar.addi v547 v546
  let v554 : BitVec 32 := Scalar.select v552 v553 v547
  let c1_i32_501 : BitVec 32 := 1#32
  let v563 : BitVec 32 := Scalar.muli v554 c1_i32_501
  let v564 : BitVec 32 := Scalar.addi c0_i32_502 v563
  v564.toNat
def k0_dev13 (d0 : Dev nD) : Nat :=
  let c0_i32_530 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_507 : BitVec 32 := 2#32
  let v573 : BitVec 32 := Scalar.addi v2 c2_i32_507
  let c4_i32_508 : BitVec 32 := 4#32
  let c0_i32_509 : BitVec 32 := 0#32
  let v574 : BitVec 1 := Scalar.cmpi .eq c4_i32_508 c0_i32_509
  let c1_i32_510 : BitVec 32 := 1#32
  let v575 : BitVec 32 := Scalar.select v574 c1_i32_510 c4_i32_508
  let v576 : BitVec 32 := Scalar.remsi v573 v575
  let c0_i32_512 : BitVec 32 := 0#32
  let v578 : BitVec 1 := Scalar.cmpi .slt v576 c0_i32_512
  let c0_i32_513 : BitVec 32 := 0#32
  let v579 : BitVec 1 := Scalar.cmpi .slt v575 c0_i32_513
  let v580 : BitVec 1 := Scalar.xori v578 v579
  let c0_i32_511 : BitVec 32 := 0#32
  let v577 : BitVec 1 := Scalar.cmpi .ne v576 c0_i32_511
  let v581 : BitVec 1 := Scalar.andi v580 v577
  let v582 : BitVec 32 := Scalar.addi v576 v575
  let v583 : BitVec 32 := Scalar.select v581 v582 v576
  let c1_i32_529 : BitVec 32 := 1#32
  let v592 : BitVec 32 := Scalar.muli v583 c1_i32_529
  let v593 : BitVec 32 := Scalar.addi c0_i32_530 v592
  v593.toNat
def k0_dev14 (d0 : Dev nD) : Nat :=
  let c0_i32_558 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_535 : BitVec 32 := 2#32
  let v602 : BitVec 32 := Scalar.addi v2 c2_i32_535
  let c4_i32_536 : BitVec 32 := 4#32
  let c0_i32_537 : BitVec 32 := 0#32
  let v603 : BitVec 1 := Scalar.cmpi .eq c4_i32_536 c0_i32_537
  let c1_i32_538 : BitVec 32 := 1#32
  let v604 : BitVec 32 := Scalar.select v603 c1_i32_538 c4_i32_536
  let v605 : BitVec 32 := Scalar.remsi v602 v604
  let c0_i32_540 : BitVec 32 := 0#32
  let v607 : BitVec 1 := Scalar.cmpi .slt v605 c0_i32_540
  let c0_i32_541 : BitVec 32 := 0#32
  let v608 : BitVec 1 := Scalar.cmpi .slt v604 c0_i32_541
  let v609 : BitVec 1 := Scalar.xori v607 v608
  let c0_i32_539 : BitVec 32 := 0#32
  let v606 : BitVec 1 := Scalar.cmpi .ne v605 c0_i32_539
  let v610 : BitVec 1 := Scalar.andi v609 v606
  let v611 : BitVec 32 := Scalar.addi v605 v604
  let v612 : BitVec 32 := Scalar.select v610 v611 v605
  let c1_i32_557 : BitVec 32 := 1#32
  let v621 : BitVec 32 := Scalar.muli v612 c1_i32_557
  let v622 : BitVec 32 := Scalar.addi c0_i32_558 v621
  v622.toNat
def k0_dev15 (d0 : Dev nD) : Nat :=
  let c0_i32_586 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_563 : BitVec 32 := 2#32
  let v631 : BitVec 32 := Scalar.addi v2 c2_i32_563
  let c4_i32_564 : BitVec 32 := 4#32
  let c0_i32_565 : BitVec 32 := 0#32
  let v632 : BitVec 1 := Scalar.cmpi .eq c4_i32_564 c0_i32_565
  let c1_i32_566 : BitVec 32 := 1#32
  let v633 : BitVec 32 := Scalar.select v632 c1_i32_566 c4_i32_564
  let v634 : BitVec 32 := Scalar.remsi v631 v633
  let c0_i32_568 : BitVec 32 := 0#32
  let v636 : BitVec 1 := Scalar.cmpi .slt v634 c0_i32_568
  let c0_i32_569 : BitVec 32 := 0#32
  let v637 : BitVec 1 := Scalar.cmpi .slt v633 c0_i32_569
  let v638 : BitVec 1 := Scalar.xori v636 v637
  let c0_i32_567 : BitVec 32 := 0#32
  let v635 : BitVec 1 := Scalar.cmpi .ne v634 c0_i32_567
  let v639 : BitVec 1 := Scalar.andi v638 v635
  let v640 : BitVec 32 := Scalar.addi v634 v633
  let v641 : BitVec 32 := Scalar.select v639 v640 v634
  let c1_i32_585 : BitVec 32 := 1#32
  let v650 : BitVec 32 := Scalar.muli v641 c1_i32_585
  let v651 : BitVec 32 := Scalar.addi c0_i32_586 v650
  v651.toNat
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v691 : BitVec 32 := Scalar.muli v2 c1024_i32
  let c0_i32_624 : BitVec 32 := 0#32
  ![v691.toNat, 0]
def k0_off4 (d0 : Dev nD) (c1_i32_627 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v697 : BitVec 32 := Scalar.subi v2 c1_i32_627
  let c4_i32_628 : BitVec 32 := 4#32
  let c0_i32_629 : BitVec 32 := 0#32
  let v698 : BitVec 1 := Scalar.cmpi .eq c4_i32_628 c0_i32_629
  let c1_i32_630 : BitVec 32 := 1#32
  let v699 : BitVec 32 := Scalar.select v698 c1_i32_630 c4_i32_628
  let v700 : BitVec 32 := Scalar.remsi v697 v699
  let c0_i32_632 : BitVec 32 := 0#32
  let v702 : BitVec 1 := Scalar.cmpi .slt v700 c0_i32_632
  let c0_i32_633 : BitVec 32 := 0#32
  let v703 : BitVec 1 := Scalar.cmpi .slt v699 c0_i32_633
  let v704 : BitVec 1 := Scalar.xori v702 v703
  let c0_i32_631 : BitVec 32 := 0#32
  let v701 : BitVec 1 := Scalar.cmpi .ne v700 c0_i32_631
  let v705 : BitVec 1 := Scalar.andi v704 v701
  let v706 : BitVec 32 := Scalar.addi v700 v699
  let v707 : BitVec 32 := Scalar.select v705 v706 v700
  let c1024_i32_688 : BitVec 32 := 1024#32
  let v748 : BitVec 32 := Scalar.muli v707 c1024_i32_688
  let c0_i32_691 : BitVec 32 := 0#32
  ![v748.toNat, 0]
abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S4096x2048, .f32⟩
  | .hbm, ⟨5, _⟩ => ⟨S1, .f32⟩
  | .hbm, ⟨6, _⟩ => ⟨S1x1, .f32⟩
  | .hbm, ⟨7, _⟩ => ⟨S4096x2048, .f32⟩
  | .hbm, ⟨8, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Proof.KernelIdeal.Sched.lean ====
/-
# The exchange's protocol

Four devices; device `c` computes four row blocks of products and sends three of them away, block `b` to the device
`up b c`, in four row chunks `k` each. This module states the protocol under the rounds library: one barrier cell per device,
whose duty `b` the device `up b c` pays by handing over slab `b` of its receive buffer, and for every chunk a send cell and a
receive cell.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

set_option maxRecDepth 16384

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The algebra: the pipeline's rounds, the exchange's rounds, the local transfers' counters -/

abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR

variable (m : (ℓ : Loc nD τ sig) → Buf (Elt F) ℓ)

/-! ## The devices -/

/-- How far around the mesh block `b` travels. -/
abbrev dist : Fin 4 → ℕ := ![1, 3, 2, 0]

set_option backward.proofsInPublic true in
/-- The device that block `b` of device `c` goes to. -/
def up (b : Fin 4) (c : Dev nD) : Dev nD := ⟨(c.val + dist b) % 4, Nat.mod_lt _ (by decide)⟩
set_option backward.proofsInPublic true in
/-- The device that block `b` of device `c` comes from. -/
def dn (b : Fin 4) (c : Dev nD) : Dev nD := ⟨(c.val + (4 - dist b)) % 4, Nat.mod_lt _ (by decide)⟩
theorem dn_up (b : Fin 4) (c : Dev nD) : dn b (up b c) = c := by revert b c; decide
theorem up_dn (b : Fin 4) (c : Dev nD) : up b (dn b c) = c := by revert b c; decide
/-- Sending block `b` on, as a permutation of the devices. -/
def ring (b : Fin 4) : Dev nD ≃ Dev nD := ⟨up b, dn b, dn_up b, up_dn b⟩

/-- The blocks that travel, among the four. -/
abbrev tr (b : Fin 3) : Fin 4 := b.castSucc

/-! ## The memrefs, the semaphores, the cells -/

abbrev xsM : Memref sig .tc .vmem S4x256x4096 .f32 := Memref.whole cc0_scratch0
abbrev wsM : Memref sig .tc .vmem S3x2048x512 .f32 := Memref.whole cc0_scratch1
abbrev x8M : Memref sig .tc .vmem S1024x4096 .fp8e4m3 := Memref.whole cc0_scratch2
abbrev w8M : Memref sig .tc .vmem S4x4096x512 .fp8e5m2 := Memref.whole cc0_scratch3
abbrev sbM : Memref sig .tc .vmem S3x1024x512 .bf16 := Memref.whole cc0_scratch4
abbrev rbM : Memref sig .tc .vmem S3x1024x512 .bf16 := Memref.whole cc0_scratch5
abbrev osM : Memref sig .tc .vmem S2x1024x512 .f32 := Memref.whole cc0_scratch6
abbrev oM : Memref sig .tc .hbm S4096x512 .f32 := Memref.whole main_v1

theorem inb_chunk (b : Fin 3) (k : Fin 4) : ∀ a, (![b.val, 256 * k.val, 0] : Fin 3 → Nat) a + S1x256x512.size a ≤ S3x1024x512.size a := by
  revert b k; decide

/-- Chunk `k` of block `b` in a three-block buffer. -/
abbrev chunkRect (b : Fin 3) (k : Fin 4) : Rect S3x1024x512 := Rect.unit (s := S3x1024x512) ![b.val, 256 * k.val, 0] S1x256x512.size (inb_chunk b k)
/-- The chunk as the transfers name it, in the send buffer -/
abbrev sChunk (b : Fin 3) (k : Fin 4) : Memref sig .tc .vmem S256x512 .bf16 :=
  (sbM.slice (chunkRect b k) (fun _ => rfl)).squeeze S256x512 squeezes_S1x256x512_S256x512
/-- and in the receive buffer. -/
abbrev rChunk (b : Fin 3) (k : Fin 4) : Memref sig .tc .vmem S256x512 .bf16 :=
  (rbM.slice (chunkRect b k) (fun _ => rfl)).squeeze S256x512 squeezes_S1x256x512_S256x512

abbrev barS : Sem sig := barrier0
theorem snd_lt (b : Fin 3) (k : Fin 4) : 9 + (4 * b.val + k.val) < sig.nDmaSem := by revert b k; decide
theorem rcv_lt (b : Fin 3) (k : Fin 4) : 21 + (4 * b.val + k.val) < sig.nDmaSem := by revert b k; decide
/-- The semaphore a chunk's departure credits, -/
def sndS (b : Fin 3) (k : Fin 4) : DmaSem sig := ⟨9 + (4 * b.val + k.val), snd_lt b k⟩
/-- and its arrival. -/
def rcvS (b : Fin 3) (k : Fin 4) : DmaSem sig := ⟨21 + (4 * b.val + k.val), rcv_lt b k⟩

abbrev barCell (c : Dev nD) : GSem nD τ sig := ((c : Thread nD τ), .reg barS)
abbrev sndCell (c : Dev nD) (b : Fin 3) (k : Fin 4) : GSem nD τ sig := ((c : Thread nD τ), .dma (sndS b k))
abbrev rcvCell (c : Dev nD) (b : Fin 3) (k : Fin 4) : GSem nD τ sig := ((c : Thread nD τ), .dma (rcvS b k))

/-- The amount a chunk's arrival credits. -/
abbrev N : ℕ := (rChunk 0 0).view.dmaCredit
theorem N_pos : 0 < N := View.dmaCredit_pos _ (by decide)

/-! ## Contents -/

/-- Device `c`'s rows of `x`, cast for the products. -/
def x8Val (c : Dev nD) : (cc0_scratch2 : Ref sig .tc).ty.Contents (Elt F) :=
  truncf .fp8e4m3 (m ((c : Thread nD τ).loc main_arg0) : FVec F S1024x4096 .f32) bitsLt_fp8e4m3_f32

/-- Where entry `i` of the cast weights of device `c` stands in `w`: column block `up (i 0) c`. -/
def wIdx (c : Dev nD) (i : S4x4096x512.Idx) : S4096x2048.Idx := fun a =>
  ⟨(![(i 1).val, 512 * (up (i 0) c).val + (i 2).val] : Fin 2 → ℕ) a, by
    have h₂ : (i 2).val < 512 := (i 2).isLt
    have h₁ : (i 1).val < 4096 := (i 1).isLt
    have h : (up (i 0) c).val < 4 := (up (i 0) c).isLt
    match a with
    | 0 => exact h₁
    | 1 => show 512 * (up (i 0) c).val + (i 2).val < 2048; omega⟩

/-- The columns of `w` that device `c` multiplies by, block by block, cast for the products. -/
def w8Val (c : Dev nD) : (cc0_scratch3 : Ref sig .tc).ty.Contents (Elt F) :=
  truncf .fp8e5m2 (fun i : S4x4096x512.Idx => (m ((c : Thread nD τ).loc main_arg1) : FVec F S4096x2048 .f32) (wIdx c i)) bitsLt_fp8e5m2_f32

theorem inb_x8 (k : Fin 4) : ∀ a, (![256 * k.val, 0] : Fin 2 → Nat) a + S256x4096.size a ≤ S1024x4096.size a := by revert k; decide
theorem inb_w8 (b : Fin 4) : ∀ a, (![b.val, 0, 0] : Fin 3 → Nat) a + S1x4096x512.size a ≤ S4x4096x512.size a := by revert b; decide

/-- Row chunk `k` of the cast `x`; block `b` of the cast weights. -/
abbrev x8Rect (k : Fin 4) : Rect S1024x4096 := Rect.unit (s := S1024x4096) ![256 * k.val, 0] S256x4096.size (inb_x8 k)
abbrev w8Rect (b : Fin 4) : Rect S4x4096x512 := Rect.unit (s := S4x4096x512) ![b.val, 0, 0] S1x4096x512.size (inb_w8 b)

/-- The product chunk `k` of block `b` that device `c` sends. -/
def chunkDot (c : Dev nD) (b : Fin 3) (k : Fin 4) : FVec F S1x256x512 .bf16 :=
  k0_pay5 (x8M.view.readAt (Elt F) (x8Rect k).toLoadRect (x8Val m c)) (w8M.view.readAt (Elt F) (w8Rect (tr b)).toLoadRect (w8Val m c))

/-- Where entry `i` of a three-block buffer stands in its chunk. -/
def inChunk (i : S3x1024x512.Idx) : S1x256x512.Idx := fun a =>
  ⟨(![0, (i 1).val % 256, (i 2).val] : Fin 3 → ℕ) a, by
    have h₂ : (i 2).val < 512 := (i 2).isLt
    match a with
    | 0 => exact Nat.one_pos
    | 1 => exact Nat.mod_lt _ (by decide)
    | 2 => exact h₂⟩
/-- The chunk that entry `i` stands in. -/
def chunkOf (i : S3x1024x512.Idx) : Fin 4 := ⟨(i 1).val / 256, by have h : (i 1).val < 1024 := (i 1).isLt; omega⟩

/-- What device `c`'s send buffer holds once every chunk is stored, -/
def sendVal (c : Dev nD) : (cc0_scratch4 : Ref sig .tc).ty.Contents (Elt F) := fun i : S3x1024x512.Idx =>
  chunkDot m c (i 0) (chunkOf i) (inChunk i)

/-- and what its receive buffer holds once every chunk has arrived. -/
def recvVal (c : Dev nD) : (cc0_scratch5 : Ref sig .tc).ty.Contents (Elt F) := fun i : S3x1024x512.Idx =>
  sendVal m (dn (tr (i 0)) c) i

/-- The chunk of the receive buffer of device `c` held over the contents `f`; -/
def rPts (c : Dev nD) (b : Fin 3) (k : Fin 4) (f : (cc0_scratch5 : Ref sig .tc).ty.Contents (Elt F)) : sProp 𝕄 :=
  (rChunk b k).view.loc (c : Thread nD τ) ↦[(rChunk b k).view.set]{fullShare} f
/-- of its send buffer. -/
def sPts (c : Dev nD) (b : Fin 3) (k : Fin 4) (f : (cc0_scratch4 : Ref sig .tc).ty.Contents (Elt F)) : sProp 𝕄 :=
  (sChunk b k).view.loc (c : Thread nD τ) ↦[(sChunk b k).view.set]{fullShare} f

omit [FloatOps F] in
instance rPts_storable (c : Dev nD) (b k f) : BI.Storable (upEmb : UEmb _ 𝕄) (rPts (F := F) c b k f) := by unfold rPts; infer_instance
omit [FloatOps F] in
instance sPts_storable (c : Dev nD) (b k f) : BI.Storable (upEmb : UEmb _ 𝕄) (sPts (F := F) c b k f) := by unfold sPts; infer_instance

/-! ## The schedule -/

/-- What the device `up b d` hands to `d` by its signal: its receive slab `b`, each chunk over any contents. -/
def slabPay (d : Dev nD) (b : Fin 3) : sProp 𝕄 :=
  bigSep Finset.univ fun k : Fin 4 => iprop(∃ f, rPts (up (tr b) d) b k f)

omit [FloatOps F] in
instance slabPay_storable (d : Dev nD) (b : Fin 3) : BI.Storable (upEmb : UEmb _ 𝕄) (slabPay (F := F) d b) := by unfold slabPay; infer_instance

/-- The block and chunk of one of the 24 exchange semaphores, and whether it is a receive one. -/
def slot (q : DmaSem sig) : Option (Bool × Fin 3 × Fin 4) :=
  if h : 9 ≤ q.val ∧ q.val < 33 then
    some (decide (21 ≤ q.val), ⟨(q.val - 9) / 4 % 3, Nat.mod_lt _ (by decide)⟩, ⟨(q.val - 9) % 4, Nat.mod_lt _ (by decide)⟩)
  else none
theorem slot_snd (b : Fin 3) (k : Fin 4) : slot (sndS b k) = some (false, b, k) := by revert b k; decide
theorem slot_rcv (b : Fin 3) (k : Fin 4) : slot (rcvS b k) = some (true, b, k) := by revert b k; decide

/-- One round: a barrier cell's three duties, one duty on each send and receive cell. -/
def rd : Rounds.Schedule (GSem nD τ sig) (Fin 3) 𝕄 where
  duties g r := if r = 0 ∧ g.1.2 = .tc then
      (match g.2 with
        | .reg s => if s = barS then Finset.univ else ∅
        | .dma q => if (slot q).isSome then {0} else ∅) else ∅
  unitless _ := False
  amount g _ _ := match g.2 with | .reg _ => 1 | .dma _ => N
  payload g _ d := match g.2 with
    | .reg _ => slabPay g.1.1 d
    | .dma q => match slot q with
      | some (true, b, k) => rPts g.1.1 b k (recvVal m g.1.1)
      | some (false, b, k) => sPts g.1.1 b k (sendVal m g.1.1)
      | none => iprop(emp)
  amount_pos g _ _ _ := by
    rcases g with ⟨t, _ | _⟩
    · exact Nat.one_pos
    · exact N_pos

instance rd_payload_storable (g : GSem nD τ sig) (r : ℕ) (d : Fin 3) :
    BI.Storable (upEmb : UEmb _ 𝕄) ((rd (F := F) m).payload g r d) := by
  obtain ⟨t, s⟩ := g
  cases s with
  | reg s => show BI.Storable upEmb (slabPay t.1 d); infer_instance
  | dma q =>
    show BI.Storable upEmb (match slot q with
      | some (true, b, k) => rPts t.1 b k (recvVal m t.1)
      | some (false, b, k) => sPts t.1 b k (sendVal m t.1)
      | none => iprop(emp))
    split <;> infer_instance

section Sched
variable (c : Dev nD) (b : Fin 3) (k : Fin 4)

theorem duties_bar : (rd (F := F) m).duties (barCell c) 0 = Finset.univ := by
  dsimp only [rd]; rw [if_pos ⟨rfl, rfl⟩]; exact if_pos rfl
theorem duties_snd : (rd (F := F) m).duties (sndCell c b k) 0 = {0} := by
  dsimp only [rd]; rw [if_pos ⟨rfl, rfl⟩, if_pos (by rw [slot_snd]; rfl)]
theorem duties_rcv : (rd (F := F) m).duties (rcvCell c b k) 0 = {0} := by
  dsimp only [rd]; rw [if_pos ⟨rfl, rfl⟩, if_pos (by rw [slot_rcv]; rfl)]
theorem duties_later (g : GSem nD τ sig) : ∀ r, 1 ≤ r → (rd (F := F) m).duties g r = ∅ :=
  fun r hr => by dsimp only [rd]; rw [if_neg fun h => by omega]

theorem amount_bar (d : Fin 3) : (rd (F := F) m).amount (barCell c) 0 d = 1 := rfl
theorem amount_dma (q : DmaSem sig) (d : Fin 3) : (rd (F := F) m).amount ((c : Thread nD τ), .dma q) 0 d = N := rfl

theorem expect_bar : (rd (F := F) m).expect (barCell c) 0 = 3 := by
  unfold Schedule.expect Schedule.amountOf
  rw [duties_bar, Finset.sum_congr rfl fun d _ => amount_bar m c d]; rfl
theorem expect_snd : (rd (F := F) m).expect (sndCell c b k) 0 = N := by
  unfold Schedule.expect Schedule.amountOf; rw [duties_snd, Finset.sum_singleton, amount_dma]
theorem expect_rcv : (rd (F := F) m).expect (rcvCell c b k) 0 = N := by
  unfold Schedule.expect Schedule.amountOf; rw [duties_rcv, Finset.sum_singleton, amount_dma]

theorem payload_bar (d : Fin 3) : (rd (F := F) m).payload (barCell c) 0 d = slabPay c d := rfl
theorem payload_snd (d : Fin 3) : (rd (F := F) m).payload (sndCell c b k) 0 d = sPts c b k (sendVal m c) := by
  dsimp only [rd]; rw [slot_snd]
theorem payload_rcv (d : Fin 3) : (rd (F := F) m).payload (rcvCell c b k) 0 d = rPts c b k (recvVal m c) := by
  dsimp only [rd]; rw [slot_rcv]

theorem rest_bar : bigSep ((rd (F := F) m).duties (barCell c) 0 \ ∅) (fun d => (rd (F := F) m).payload (barCell c) 0 d)
    = iprop(slabPay c 0 ∗ slabPay c 1 ∗ slabPay c 2) := by
  rw [Finset.sdiff_empty, duties_bar, bigSep_univ_eq_bigSepL [0, 1, 2] (by decide) (by decide)]; rfl
theorem rest_snd : bigSep ((rd (F := F) m).duties (sndCell c b k) 0 \ ∅) (fun d => (rd (F := F) m).payload (sndCell c b k) 0 d) = sPts c b k (sendVal m c) := by
  rw [Finset.sdiff_empty, duties_snd, bigSep_singleton, payload_snd]
theorem rest_rcv : bigSep ((rd (F := F) m).duties (rcvCell c b k) 0 \ ∅) (fun d => (rd (F := F) m).payload (rcvCell c b k) 0 d) = rPts c b k (recvVal m c) := by
  rw [Finset.sdiff_empty, duties_rcv, bigSep_singleton, payload_rcv]
end Sched

/-! ## What each device owes; the levels -/

/-- The chunk sent when `n + 1` sends remain. -/
def sq (n : ℕ) : Fin 3 × Fin 4 :=
  if n < 4 then (2, ⟨(3 - n) % 4, Nat.mod_lt _ (by decide)⟩)
  else (if n % 2 = 1 then 0 else 1, ⟨(11 - n) / 2 % 4, Nat.mod_lt _ (by decide)⟩)

/-- What device `c` owes while `n` sends remain. -/
def owed (c : Dev nD) : ℕ → CellTallies nD τ sig Unit
  | 0 => 0
  | n + 1 => owed c n + tallyAt (rcvCell (up (tr (sq n).1) c) (sq n).1 (sq n).2) () N

/-- What it owes while `n` signals remain too: the last to device `c + 3`. -/
def owedBar (c : Dev nD) : ℕ → CellTallies nD τ sig Unit
  | 0 => owed c 12
  | n + 1 => owedBar c n + tallyAt (barCell (dn (if n = 0 then 0 else if n = 1 then 2 else 1) c)) () 1

def O₀ (c : Dev nD) : CellTallies nD τ sig Unit := owedBar c 3

def L (g : GSem nD τ sig) : Finset Unit := if g.1.2 = .tc then {()} else ∅
/-- The barrier below the receive cells, everything else below the barrier. -/
def lv (g : GSem nD τ sig) (_ : Unit) : ℕ := match g.2 with
  | .reg _ => 1
  | .dma q => if 21 ≤ q.val ∧ q.val < 33 then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_rcv (c : Dev nD) (b : Fin 3) (k : Fin 4) (u : Unit) : lv (rcvCell c b k) u = 2 := by
  have h : 21 ≤ (rcvS b k).val ∧ (rcvS b k).val < 33 := by revert b k; decide
  exact if_pos h

theorem owed_pos {c : Dev nD} {n : ℕ} {g : GSem nD τ sig} {u : Unit} (h : 0 < owed c n g u) : ∃ d b k, g = rcvCell d b k := by
  induction n with
  | zero => exact absurd h (by simp [owed])
  | succ n ih =>
    unfold owed at h
    rw [Pi.add_apply, Finsupp.add_apply, tallyAt_apply] at h
    by_cases hg : g = rcvCell (up (tr (sq n).1) c) (sq n).1 (sq n).2
    · exact ⟨_, _, _, hg⟩
    · rw [if_neg (fun h' => hg h'.1)] at h; exact ih h
theorem owedBar_pos {c : Dev nD} {n : ℕ} {g : GSem nD τ sig} {u : Unit} (h : 0 < owedBar c n g u) :
    (∃ d b k, g = rcvCell d b k) ∨ ∃ d, g = barCell d := by
  induction n with
  | zero => exact .inl (owed_pos h)
  | succ n ih =>
    unfold owedBar at h
    rw [Pi.add_apply, Finsupp.add_apply, tallyAt_apply] at h
    by_cases hg : g = barCell (dn (if n = 0 then 0 else if n = 1 then 2 else 1) c)
    · exact .inr ⟨_, hg⟩
    · rw [if_neg (fun h' => hg h'.1)] at h; exact ih h

omit [FloatOps F] in
/-- A wait on a semaphore of the lowest level is allowed whatever signals and sends remain. -/
theorem mayWait_low (c : Dev nD) (q : DmaSem sig) (hq : ¬ (21 ≤ q.val ∧ q.val < 33)) (O : CellTallies nD τ sig Unit)
    (hO : ∀ g u, 0 < O g u → (∃ d b k, g = rcvCell d b k) ∨ ∃ d, g = barCell d) :
    (levAts L lv : sProp 𝕄) ⊢ MayWait (c : Thread nD τ) (.dma q) () O :=
  MayOwe.of_cut (L := L) (lev := lv) 0 (fun p hp => by rw [Finset.mem_singleton.mp hp, L_tc]; exact Finset.mem_singleton_self _)
    (fun g u hg => by rcases hO g u hg with ⟨d, b, k, rfl⟩ | ⟨d, rfl⟩ <;> exact Finset.mem_singleton_self _)
    (fun p hp => by rw [Finset.mem_singleton.mp hp]; dsimp only [lv]; rw [if_neg hq])
    (fun g u hg => by
      rcases hO g u hg with ⟨d, b, k, rfl⟩ | ⟨d, rfl⟩
      · rw [lv_rcv]; decide
      · exact Nat.one_pos)

omit [FloatOps F] in
theorem mayWait_local (c : Dev nD) (n : ℕ) (q : DmaSem sig) (hq : q.val < 9) :
    (levAts L lv : sProp 𝕄) ⊢ MayWait (c : Thread nD τ) (.dma q) () (owed c n) :=
  mayWait_low c q (fun h => by omega) _ fun g u h => .inl (owed_pos h)

omit [FloatOps F] in
/-- At its barrier wait a device owes only arrivals, above its barrier cell. -/
theorem mayWait_bar (c : Dev nD) (n : ℕ) : (levAts L lv : sProp 𝕄) ⊢ MayWait (c : Thread nD τ) (.reg barS) () (owed c n) :=
  MayOwe.of_cut (L := L) (lev := lv) 1 (fun p hp => by rw [Finset.mem_singleton.mp hp, L_tc]; exact Finset.mem_singleton_self _)
    (fun g u hg => by obtain ⟨d, b, k, rfl⟩ := owed_pos hg; exact Finset.mem_singleton_self _)
    (fun p hp => by rw [Finset.mem_singleton.mp hp]; exact le_refl _)
    (fun g u hg => by obtain ⟨d, b, k, rfl⟩ := owed_pos hg; rw [lv_rcv]; decide)

end Cert.KernelIdeal.Exchange

end
-- ==== Proof.KernelIdeal.Steps.lean ====
/-
# The body's remote steps

One rule for each of the exchange's steps, at any block `b` and chunk `k`: a signal at the barrier, the wait for the three
signals, a chunk's departure, and the wait for its arrival or for its departure to be over. Each takes the launch's record of
the cells whole, and the waits close the cell they wait on.
-/
module

public import proofs.«01_k».proof.Proof.KernelIdeal.Sched

@[expose] public section

set_option maxRecDepth 16384

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The record of the cells -/

/-- A device's exchange cells: its barrier, and a send and a receive cell for each chunk. -/
abbrev CI : Type := Option (Bool × Fin 3 × Fin 4)

/-- The cell a name of `CI` stands for. -/
def kcell (ck : Dev nD × CI) : GSem nD τ sig := match ck.2 with
  | none => barCell ck.1
  | some (false, b, k) => sndCell ck.1 b k
  | some (true, b, k) => rcvCell ck.1 b k

/-- Every cell's invariant, and its first round reached. -/
def records (K : Dev nD × CI → ℕ) : sProp 𝕄 :=
  iprop((bigSep Finset.univ fun ck : Dev nD × CI => cellInv ER (rd (F := F) m) (K ck) (kcell ck))
    ∗ bigSep Finset.univ fun ck : Dev nD × CI => reached ER (kcell ck) 0)

instance records_persistent (K : Dev nD × CI → ℕ) : BI.Persistent (records (F := F) m K) := by unfold records; infer_instance

abbrev 𝒱₀ : Variants := Variants.none

variable (K : Dev nD × CI → ℕ)

theorem inv_at (ck : Dev nD × CI) : records (F := F) m K ⊢ cellInv ER (rd (F := F) m) (K ck) (kcell ck) := by
  unfold records; iintro ⟨#HI, #HR⟩
  have h : (bigSep Finset.univ fun ck : Dev nD × CI => (cellInv ER (rd (F := F) m) (K ck) (kcell ck) : sProp 𝕄)) ⊢ _ := bigSep_elim (Finset.mem_univ ck)
  iapply h; iexact HI
theorem reached_at (ck : Dev nD × CI) : records (F := F) m K ⊢ reached ER (kcell ck) 0 := by
  unfold records; iintro ⟨#HI, #HR⟩
  have h : (bigSep Finset.univ fun ck : Dev nD × CI => (reached ER (kcell ck) 0 : sProp 𝕄)) ⊢ _ := bigSep_elim (Finset.mem_univ ck)
  iapply h; iexact HR

/-! ## The barrier -/

/-- A device's own receive slab `b`, each chunk over any contents. -/
def ownSlab (c : Dev nD) (b : Fin 3) : sProp 𝕄 := bigSep Finset.univ fun k : Fin 4 => iprop(∃ f, rPts (F := F) c b k f)

/-- A SIGNAL to the device whose block `b` comes here hands that device the slab the block lands in. -/
theorem wp_ready (c : Dev nD) (b : Fin 3) (n : Dev nD) (hn : n = dn (tr b) c) (a : ℤ) (ha : a = 1) (O O' : CellTallies nD τ sig Unit) (W : Waits sig Unit)
    (hO : O' = O + tallyAt (barCell (dn (tr b) c)) () 1)
    {α : Type} {Q : α → sProp 𝕄} {k : PUnit → Prog (TpuEff nD τ sig (Elt F) Λ₀ .tc) α} :
    iprop(records m K ∗ ownSlab c b ∗ owes (c : Thread nD τ) O' W ∗ dutyTok ER (barCell (dn (tr b) c)) 0 b)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n : Thread nD τ) barS a) k) Q) := by
  subst hn ha
  iintro ⟨#HR, Hs, HO, Ht⟩ Hk
  ihave #HI := (inv_at m K (dn (tr b) c, none)) $$ HR
  ihave #Hr := (reached_at m K (dn (tr b) c, none)) $$ HR
  iapply (Rounds.wp_signal 𝒱₀ ER (rd m) (c : Thread nD τ) none (dst := (dn (tr b) c : Thread nD τ)) (κ := K (dn (tr b) c, none))
      (d := b) (by rw [duties_bar]; exact Finset.mem_univ _) (by rw [amount_bar]) () O hO) $$ [Hs HO Ht]
  · isplitr; · iexact HI
    isplitl [HO]; · iexact HO
    isplitl [Ht]; · iexact Ht
    isplitl [Hs]
    · rw [payload_bar]; unfold slabPay ownSlab; rw [up_dn]; iexact Hs
    · iexact Hr
  iexact Hk

/-- The WAIT for the three signals: the three slabs this device's blocks land in come with them. -/
theorem wp_bar (c : Dev nD) (n : ℕ) (a : ℤ) (ha : a = 3) (W : Waits sig Unit)
    {α : Type} {Q : α → sProp 𝕄} {k : PUnit → Prog (TpuEff nD τ sig (Elt F) Λ₀ .tc) α} :
    iprop(records m K ∗ levAts L lv ∗ owes (c : Thread nD τ) (owed c n) W ∗ cred (tallyAt (barCell c) () 3) ∗ atPos ER (barCell c) 0 ∅ 0)
      ⊢ iprop(((∃ W, owes (c : Thread nD τ) (owed c n) W) ∗ slabPay c 0 ∗ slabPay c 1 ∗ slabPay c 2 ∗ semVal (barCell c) 0
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS a) k) Q) := by
  subst ha
  iintro ⟨#HR, #Hlev, HO, Hc, Hat⟩ Hk
  ihave #HI := (inv_at m K (c, none)) $$ HR
  iapply (Rounds.wp_wait_rest_token 𝒱₀ ER (rd m) (c : Thread nD τ) none (κ := K (c, none))
      (wpE_semWait_eq 𝒱₀ (c : Thread nD τ) none Set.univ) (Set.mem_univ _) () (O := owed c n) (W := W) (R := 0) (m := 0) (T := ∅)
      (by rw [expect_bar])) $$ [Hc HO Hat]
  · isplitr; · iexact HI
    isplitl [Hc]; · iexact Hc
    isplitl [HO]; · iexact HO
    isplitr; · iapply (mayWait_bar c n); iexact Hlev
    iexact Hat
  iintro ⟨HO, Hat, -, Hpay⟩
  ihave Hp := (Entails.of_eq (rest_bar m c)) $$ Hpay
  icases Hp with ⟨H0, H1, H2⟩
  imod (Rounds.cell_close ER (rd m) (Set.mem_univ (K (c, none))) (fun h => h) (R := 0 + 1) (duties_later m (barCell c))) $$ [Hat] with Hz
  · isplitr; · iexact HI
    iexact Hat
  iapply Hk
  isplitl [HO]; · iexists _; iexact HO
  isplitl [H0]; · iexact H0
  isplitl [H1]; · iexact H1
  isplitl [H2]; · iexact H2
  iexact Hz

/-! ## The chunks -/

theorem credit_r (b : Fin 3) (k : Fin 4) (sm : DmaSem sig) : (rChunk b k).view.amount (.dma sm) = N := rfl

theorem chunk_block (b : Fin 3) (k : Fin 4) (x : S256x512.Idx) : ((rChunk b k).view.emb x : S3x1024x512.Idx) 0 = b := by
  refine Fin.ext ?_
  have h : (((chunkRect b k).emb (Shape.reshapeEquiv squeezes_S1x256x512_S256x512.numel_eq x)) (0 : Fin 3)).val = b.val := by
    rw [Rect.emb_apply]
    have h : (Shape.reshapeEquiv squeezes_S1x256x512_S256x512.numel_eq x (0 : Fin 3)).val < 1 := Fin.isLt _
    show b.val + 1 * (Shape.reshapeEquiv squeezes_S1x256x512_S256x512.numel_eq x (0 : Fin 3)).val = b.val
    omega
  exact h

/-- A chunk that travels whole lands as the receiver's contents there. -/
theorem landed (c : Dev nD) (b : Fin 3) (k : Fin 4) (fd : (cc0_scratch5 : Ref sig .tc).ty.Contents (Elt F)) :
    rPts (up (tr b) c) b k ((rChunk b k).view.write (Elt F) fd ((sChunk b k).view.read (Elt F) (sendVal m c)) Finset.univ)
      = rPts (F := F) (up (tr b) c) b k (recvVal m (up (tr b) c)) := by
  unfold rPts
  refine pointsTo_congr fun i hi => ?_
  obtain ⟨x, -, rfl⟩ := Finset.mem_map.mp hi
  rw [View.write_emb_of_mem _ _ (Finset.mem_univ x), View.read_apply, cast_cast, cast_eq]
  unfold recvVal
  rw [chunk_block, dn_up]
  rfl

/-- A chunk's DEPARTURE: the send chunk over its final contents goes, with the receiver's chunk to land in. -/
theorem wp_send (c : Dev nD) (b : Fin 3) (k : Fin 4) (n : Dev nD) (hn : n = up (tr b) c) (O O' : CellTallies nD τ sig Unit)
    (hO : O' = O + tallyAt (rcvCell (up (tr b) c) b k) () N) (W : Waits sig Unit)
    {hsc : (rChunk b k : Memref sig (Dev.tc n : Thread nD τ).2.kind .vmem S256x512 .bf16).view.ref.isScScratch = false}
    {hsrc : (sChunk b k).view.WordExact} {hdst : (rChunk b k).view.WordExact}
    {hsem : DmaTarget.Typed .vmem (.dma (rcvS b k)) (.remote (Dev.tc n : Thread nD τ) (rChunk b k) (.dma (sndS b k)) hsc)}
    {α : Type} {Q : α → sProp 𝕄} {kk : PUnit → Prog (TpuEff nD τ sig (Elt F) Λ₀ .tc) α} :
    iprop(records m K ∗ sPts c b k (sendVal m c) ∗ (∃ f, rPts (up (tr b) c) b k f) ∗ owes (c : Thread nD τ) O' W
        ∗ dutyTok ER (sndCell c b k) 0 0 ∗ dutyTok ER (rcvCell (up (tr b) c) b k) 0 0)
      ⊢ iprop(((cred (tallyAt (sndCell c b k) () N) ∗ owes (c : Thread nD τ) O W) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (sChunk b k) (.remote (Dev.tc n : Thread nD τ) (rChunk b k) (.dma (sndS b k)) hsc) (.dma (rcvS b k)) hsrc hdst hsem) kk) Q) := by
  subst hn
  iintro ⟨#HR, Hs, ⟨%fd, Hd⟩, HO, Hts, Htr⟩
  ihave #HIs := (inv_at m K (c, some (false, b, k))) $$ HR
  ihave #HIr := (inv_at m K (up (tr b) c, some (true, b, k))) $$ HR
  ihave #Hrs := (reached_at m K (c, some (false, b, k))) $$ HR
  ihave #Hrr := (reached_at m K (up (tr b) c, some (true, b, k))) $$ HR
  unfold sPts rPts
  iapply (Rounds.wp_send_pointsTo 𝒱₀ ER (rd m) (c : Thread nD τ) none (κ₁ := K (c, some (false, b, k))) (κ₂ := K (up (tr b) c, some (true, b, k)))
    (r₁ := 0) (r₂ := 0) (d₁ := 0) (d₂ := 0) (fd := fd)
    (by rw [duties_snd m c b k]; exact Finset.mem_singleton_self _) (by rw [duties_rcv m (up (tr b) c) b k]; exact Finset.mem_singleton_self _)
    () () N (credit_r b k _) (amount_dma m c (sndS b k) 0) (amount_dma m (up (tr b) c) (rcvS b k) 0) O hO (W := W)
    (by rw [payload_snd]; exact BI.Entails.refl _)
    (by rw [payload_rcv, ← landed m c b k fd]; exact BI.Entails.refl _))
  isplitr; · iexact HIs
  isplitr; · iexact HIr
  isplitl [Hs]; · iexact Hs
  isplitl [Hd]; · iexact Hd
  isplitl [HO]; · iexact HO
  isplitl [Hts]; · iexact Hts
  isplitr; · iexact Hrs
  isplitl [Htr]; · iexact Htr
  iexact Hrr

/-- The WAIT for a chunk's ARRIVAL, owing nothing: the receive chunk over its final contents. -/
theorem wp_arrived (c : Dev nD) (b : Fin 3) (k : Fin 4) (W : Waits sig Unit)
    {src dst : Memref sig .tc .vmem S256x512 .bf16} {hsrc : src.view.WordExact} {hdst : dst.view.WordExact} (hN : dst.view.dmaCredit = N)
    {α : Type} {Q : α → sProp 𝕄} {kk : PUnit → Prog (TpuEff nD τ sig (Elt F) Λ₀ .tc) α} :
    iprop(records m K ∗ cred (tallyAt (rcvCell c b k) () N) ∗ owes (c : Thread nD τ) 0 W ∗ atPos ER (rcvCell c b k) 0 ∅ 0)
      ⊢ iprop((((∃ W, owes (c : Thread nD τ) 0 W) ∗ semVal (rcvCell c b k) 0 ∗ rPts c b k (recvVal m c))
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (rcvS b k) src dst hsrc hdst) kk) Q) := by
  iintro ⟨#HR, Hc, HO, Hat⟩ Hk
  ihave #HI := (inv_at m K (c, some (true, b, k))) $$ HR
  iapply (Rounds.wp_wait_rest_token 𝒱₀ ER (rd m) (c : Thread nD τ) none (κ := K (c, some (true, b, k)))
      (wpE_waitDma2_eq 𝒱₀ (c : Thread nD τ) none Set.univ) (Set.mem_univ _) () (O := 0) (W := W) (R := 0) (m := 0) (T := ∅)
      (by rw [Nat.zero_add, hN, expect_rcv m c b k])) $$ [Hc HO Hat]
  · isplitr; · iexact HI
    isplitl [Hc]; · iexact Hc
    isplitl [HO]; · iexact HO
    isplitr; · rw [MayWait_zero]; iempintro
    iexact Hat
  iintro ⟨HO, Hat, -, Hpay⟩
  imod (Rounds.cell_close ER (rd m) (Set.mem_univ (K (c, some (true, b, k)))) (fun h => h) (R := 0 + 1) (duties_later m (rcvCell c b k))) $$ [Hat] with Hz
  · isplitr; · iexact HI
    iexact Hat
  iapply Hk
  isplitl [HO]; · iexists _; iexact HO
  isplitl [Hz]; · iexact Hz
  iapply (Entails.of_eq (rest_rcv m c b k)); iexact Hpay

/-- The WAIT for a chunk's departure to be over, owing nothing: the send chunk back. -/
theorem wp_departed (c : Dev nD) (b : Fin 3) (k : Fin 4) (W : Waits sig Unit)
    {src dst : Memref sig .tc .vmem S256x512 .bf16} {hsrc : src.view.WordExact} {hdst : dst.view.WordExact} (hN : dst.view.dmaCredit = N)
    {α : Type} {Q : α → sProp 𝕄} {kk : PUnit → Prog (TpuEff nD τ sig (Elt F) Λ₀ .tc) α} :
    iprop(records m K ∗ cred (tallyAt (sndCell c b k) () N) ∗ owes (c : Thread nD τ) 0 W ∗ atPos ER (sndCell c b k) 0 ∅ 0)
      ⊢ iprop((((∃ W, owes (c : Thread nD τ) 0 W) ∗ semVal (sndCell c b k) 0 ∗ sPts c b k (sendVal m c))
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (sndS b k) src dst hsrc hdst) kk) Q) := by
  iintro ⟨#HR, Hc, HO, Hat⟩ Hk
  ihave #HI := (inv_at m K (c, some (false, b, k))) $$ HR
  iapply (Rounds.wp_wait_rest_token 𝒱₀ ER (rd m) (c : Thread nD τ) none (κ := K (c, some (false, b, k)))
      (wpE_waitDma2_eq 𝒱₀ (c : Thread nD τ) none Set.univ) (Set.mem_univ _) () (O := 0) (W := W) (R := 0) (m := 0) (T := ∅)
      (by rw [Nat.zero_add, hN, expect_snd m c b k])) $$ [Hc HO Hat]
  · isplitr; · iexact HI
    isplitl [Hc]; · iexact Hc
    isplitl [HO]; · iexact HO
    isplitr; · rw [MayWait_zero]; iempintro
    iexact Hat
  iintro ⟨HO, Hat, -, Hpay⟩
  imod (Rounds.cell_close ER (rd m) (Set.mem_univ (K (c, some (false, b, k)))) (fun h => h) (R := 0 + 1) (duties_later m (sndCell c b k))) $$ [Hat] with Hz
  · isplitr; · iexact HI
    iexact Hat
  iapply Hk
  isplitl [HO]; · iexists _; iexact HO
  isplitl [Hz]; · iexact Hz
  iapply (Entails.of_eq (rest_snd m c b k)); iexact Hpay

end Cert.KernelIdeal.Exchange

end
-- ==== Proof.KernelIdeal.Contents.lean ====
/-
# What the buffers hold

The stage slots and the pieces that the run holds its buffers in; what a drained stage slot leaves in the cast buffers; and that
a product of the cast buffers is the chunk that the protocol promises.
-/
module

public import proofs.«01_k».proof.Proof.KernelIdeal.Steps
public import Idealize.ShloMosaic.Lib.Pipeline.Value
public import Idealize.ShloMosaic.Lib.Pointwise.ElementwiseCore

@[expose] public section

set_option maxRecDepth 16384

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The stage slots -/

abbrev xM : Memref sig .tc .hbm S1024x4096 .f32 := Memref.whole main_arg0
abbrev wM : Memref sig .tc .hbm S4096x2048 .f32 := Memref.whole main_arg1

theorem inb_xs (i : Fin 4) : ∀ a, (![i.val, 0, 0] : Fin 3 → Nat) a + S1x256x4096.size a ≤ S4x256x4096.size a := by revert i; decide
theorem inb_ws (i : Fin 3) : ∀ a, (![i.val, 0, 0] : Fin 3 → Nat) a + S1x2048x512.size a ≤ S3x2048x512.size a := by revert i; decide
theorem inb_os (i : Fin 2) : ∀ a, (![i.val, 0, 0] : Fin 3 → Nat) a + S1x1024x512.size a ≤ S2x1024x512.size a := by revert i; decide
theorem inb_slab (b : Fin 3) : ∀ a, (![b.val, 0, 0] : Fin 3 → Nat) a + S1x1024x512.size a ≤ S3x1024x512.size a := by revert b; decide

abbrev xSlot (i : Fin 4) : Memref sig .tc .vmem S256x4096 .f32 :=
  (xsM.slice (Rect.unit (s := S4x256x4096) ![i.val, 0, 0] S1x256x4096.size (inb_xs i)) (fun _ => rfl)).squeeze S256x4096 squeezes_S1x256x4096_S256x4096
abbrev wSlot (i : Fin 3) : Memref sig .tc .vmem S2048x512 .f32 :=
  (wsM.slice (Rect.unit (s := S3x2048x512) ![i.val, 0, 0] S1x2048x512.size (inb_ws i)) (fun _ => rfl)).squeeze S2048x512 squeezes_S1x2048x512_S2048x512
abbrev oSlot (i : Fin 2) : Memref sig .tc .vmem S1024x512 .f32 :=
  (osM.slice (Rect.unit (s := S2x1024x512) ![i.val, 0, 0] S1x1024x512.size (inb_os i)) (fun _ => rfl)).squeeze S1024x512 squeezes_S1x1024x512_S1024x512
/-- Slab `b` of the receive buffer. -/
abbrev rSlab (b : Fin 3) : Memref sig .tc .vmem S1024x512 .bf16 :=
  (rbM.slice (Rect.unit (s := S3x1024x512) ![b.val, 0, 0] S1x1024x512.size (inb_slab b)) (fun _ => rfl)).squeeze S1024x512 squeezes_S1x1024x512_S1024x512

/-- A memref held over the contents `f`. -/
def pts {sp : Space} {s : Shape} {e : EltTy} (M : Memref sig .tc sp s e) (c : Dev nD) (q : PosShare TreeShare) (f : Buf (Elt F) (M.view.loc (c : Thread nD τ))) : sProp 𝕄 :=
  M.view.loc (c : Thread nD τ) ↦[M.view.set]{q} f

/-! ## Drained slots -/

/-- Device `c`'s rows of `x`, and its `w`. -/
abbrev xArg (c : Dev nD) : (main_arg0 : Ref sig .tc).ty.Contents (Elt F) := m ((c : Thread nD τ).loc main_arg0)
abbrev wArg (c : Dev nD) : (main_arg1 : Ref sig .tc).ty.Contents (Elt F) := m ((c : Thread nD τ).loc main_arg1)

/-- Every piece of a list of stores holds the contents `G` where it stands. -/
def Good {s : Shape} {e : EltTy} (G : s.Idx → Elt F e) (L : List (View.Piece (Elt F) s e)) : Prop := ∀ p ∈ L, ∀ y : p.1.shape.Idx, p.2 y = G (p.1.emb y)

omit [FloatOps F] in
theorem Good.cons {s : Shape} {e : EltTy} {G : s.Idx → Elt F e} {r : Rect s} {w : r.shape.Idx → Elt F e} {L : List (View.Piece (Elt F) s e)}
    (h : ∀ y, w y = G (r.emb y)) (hL : Good G L) : Good G (⟨r, w⟩ :: L) := by
  intro p hp y
  rcases List.mem_cons.mp hp with rfl | hp
  · exact h y
  · exact hL p hp y

omit [FloatOps F] in
theorem Good.nil {s : Shape} {e : EltTy} {G : s.Idx → Elt F e} : Good G [] := fun p hp => absurd hp (List.not_mem_nil)

/-- A load of a box that good stores cover reads the contents. -/
theorem Good.readCov {s : Shape} {e : EltTy} {sp : Space} {G : s.Idx → Elt F e} {L : List (View.Piece (Elt F) s e)} (hL : Good G L)
    (v : View sig .tc sp s e) (r : Rect s) (hc : ∀ y, ∃ p ∈ L, r.emb y ∈ p.1.set) : v.readCov L r.toLoadRect = fun y => G (r.emb y) := by
  rw [View.readCov_eq_canon']
  exact funext fun y => View.canon_apply_of_pieces G L hL _ (hc y)

/-- A slot loaded after a copy filled it whole holds what was copied. -/
theorem slot_load {sp : Space} {s t : Shape} {e : EltTy} (M : Memref sig .tc sp s e) (r : Rect s) (hr) (hs : r.shape.Squeezes t)
    (f) (w : t.Idx → Elt F e) (L) (hc : r.shape.ShapeCasts t) :
    shapeCast t (M.view.readAt (Elt F) r.toLoadRect (((M.slice r hr).squeeze t hs).view.writes (Elt F) f (⟨Rect.whole t, w⟩ :: L))) hc = w := by
  funext y
  have h := View.read_writes_cons_emb (Val := Elt F) (f := f) (v := ((M.slice r hr).squeeze t hs).view) (Rect.whole t) w L y
  rw [Rect.emb_whole_apply] at h
  exact h

/-- What a copy out of a window of an array reads. -/
theorem window_read {sp : Space} {s : Shape} {e : EltTy} (M : Memref sig .tc sp s e) (r : Rect s) (hr) (A) (y : r.shape.Idx) :
    (ReadAs.same.apply ((M.slice r hr).view.read (Elt F) A) : r.shape.Idx → Elt F e) y = M.view.read (Elt F) A (r.emb y) := rfl

/-- A staged row chunk `k` of `x`, cast, is the chunk of the cast `x`. -/
theorem x_piece (c : Dev nD) (k : Fin 4) (P : Vec F S1x256x4096 .f32 → FVec F S256x4096 .fp8e4m3) (hP : ∀ v, P v = k0_pay4 v)
    (v : Vec F S1x256x4096 .f32) (w : FVec F S256x4096 .f32)
    (hv : shapeCast S256x4096 v shapeCasts_S1x256x4096_S256x4096 = w) (hw : ∀ y, w y = xM.view.read (Elt F) (xArg m c) ((x8Rect k).emb y)) :
    ∀ y, P v y = x8Val m c ((x8Rect k).emb y) := by
  intro y
  rw [hP]
  unfold k0_pay4
  rw [shapeCast_self, hv]
  unfold x8Val
  rw [truncf_apply, truncf_apply, hw]
  rfl

theorem inb_half (b : Fin 4) (h : Fin 2) : ∀ a, (![b.val, 2048 * h.val, 0] : Fin 3 → Nat) a + S1x2048x512.size a ≤ S4x4096x512.size a := by revert b h; decide
/-- Half `h` of block `b` of the cast weights. -/
abbrev w8Half (b : Fin 4) (h : Fin 2) : Rect S4x4096x512 := Rect.unit (s := S4x4096x512) ![b.val, 2048 * h.val, 0] S1x2048x512.size (inb_half b h)

/-- Where half `h` of block `b` stands in `w`. -/
theorem half_idx (c : Dev nD) (b : Fin 4) (h : Fin 2) (off : Fin 2 → ℕ) (inb) (hoff : off = ![2048 * h.val, 512 * (up b c).val]) (y : S1x2048x512.Idx) :
    (Rect.unit (s := S4096x2048) off S2048x512.size inb).emb (fun a => y a.succ) = wIdx c ((w8Half b h).emb y) := by
  subst hoff
  have h0 : (y 0).val = 0 := by have h : (y 0).val < 1 := (y 0).isLt; omega
  have hb : (w8Half b h).emb y 0 = b := Fin.ext (by
    rw [Rect.emb_apply]
    show b.val + 1 * (y 0).val = b.val
    omega)
  refine Shape.idx_ext₂ (n := ![4096, 2048]) ?_ ?_
  · rfl
  · unfold wIdx
    show 512 * (up b c).val + 1 * (y 2).val = 512 * (up ((w8Half b h).emb y 0) c).val + (0 + 1 * (y 2).val)
    rw [hb, Nat.zero_add]

/-- A staged half of a column block of `w`, cast, is that half of the cast weights. -/
theorem w_piece (c : Dev nD) (b : Fin 4) (h : Fin 2) (P : Vec F S1x2048x512 .f32 → FVec F S1x2048x512 .fp8e5m2) (hP : ∀ v, P v = k0_pay2 v)
    (v : Vec F S1x2048x512 .f32) (w : FVec F S2048x512 .f32) (off : Fin 2 → ℕ) (inb)
    (hoff : off = ![2048 * h.val, 512 * (up b c).val]) (hv : shapeCast S2048x512 v shapeCasts_S1x2048x512_S2048x512 = w)
    (hw : ∀ y, w y = wM.view.read (Elt F) (wArg m c) ((Rect.unit (s := S4096x2048) off S2048x512.size inb).emb y)) :
    ∀ y, P v y = w8Val m c ((w8Half b h).emb y) := by
  intro y
  rw [hP]
  unfold k0_pay2
  rw [hv]
  refine (shapeCast_addUnit_apply (n := 2) ![2048, 512] _ _ y).trans ?_
  unfold w8Val
  refine congrArg (FloatOps.truncf .fp8e5m2 bitsLt_fp8e5m2_f32) ?_
  refine (hw _).trans ?_
  exact congrArg (wM.view.read (Elt F) (wArg m c)) (half_idx c b h off inb hoff y)

/-- The column block of `w` at each of the offsets the copies name. -/
theorem off1_eq : ∀ c : Dev nD, k0_off1 c 1#32 = ![0, 512 * (up 0 c).val] ∧ k0_off1 c 3#32 = ![0, 512 * (up 1 c).val]
    ∧ k0_off1 c 2#32 = ![0, 512 * (up 2 c).val] ∧ k0_off1 c 0#32 = ![0, 512 * (up 3 c).val] := by decide +kernel
theorem off2_eq : ∀ c : Dev nD, k0_off2 c 1#32 = ![2048, 512 * (up 0 c).val] ∧ k0_off2 c 3#32 = ![2048, 512 * (up 1 c).val]
    ∧ k0_off2 c 2#32 = ![2048, 512 * (up 2 c).val] ∧ k0_off2 c 0#32 = ![2048, 512 * (up 3 c).val] := by decide +kernel

/-! ## Products of the cast buffers -/

/-- The row chunks of the list stand for the cast `x`, those in `S` among them. -/
def GX (c : Dev nD) (S : List (Fin 4)) (L : List (View.Piece (Elt F) S1024x4096 .fp8e4m3)) : Prop :=
  Good (x8Val m c) L ∧ ∀ k ∈ S, ∃ p ∈ L, p.1 = x8Rect k
/-- The halves of the list stand for the cast weights, those in `S` among them. -/
def GW (c : Dev nD) (S : List (Fin 4 × Fin 2)) (L : List (View.Piece (Elt F) S4x4096x512 .fp8e5m2)) : Prop :=
  Good (w8Val m c) L ∧ ∀ k ∈ S, ∃ p ∈ L, p.1 = w8Half k.1 k.2

theorem GX.nil (c : Dev nD) : GX (F := F) m c [] [] := ⟨Good.nil, fun k hk => absurd hk (List.not_mem_nil)⟩
theorem GW.nil (c : Dev nD) : GW (F := F) m c [] [] := ⟨Good.nil, fun k hk => absurd hk (List.not_mem_nil)⟩

variable {m}
theorem GX.cons {c : Dev nD} {S L} (k : Fin 4) {w : (x8Rect k).shape.Idx → Elt F .fp8e4m3} (h : ∀ y, w y = x8Val m c ((x8Rect k).emb y)) (hL : GX m c S L) :
    GX m c (k :: S) (⟨x8Rect k, w⟩ :: L) :=
  ⟨hL.1.cons h, fun k' hk => by
    rcases List.mem_cons.mp hk with rfl | hk
    · exact ⟨_, List.mem_cons_self, rfl⟩
    · obtain ⟨p, hp, e⟩ := hL.2 k' hk; exact ⟨p, List.mem_cons_of_mem _ hp, e⟩⟩
theorem GW.cons {c : Dev nD} {S L} (k : Fin 4 × Fin 2) {w : (w8Half k.1 k.2).shape.Idx → Elt F .fp8e5m2} (h : ∀ y, w y = w8Val m c ((w8Half k.1 k.2).emb y))
    (hL : GW m c S L) : GW m c (k :: S) (⟨w8Half k.1 k.2, w⟩ :: L) :=
  ⟨hL.1.cons h, fun k' hk => by
    rcases List.mem_cons.mp hk with rfl | hk
    · exact ⟨_, List.mem_cons_self, rfl⟩
    · obtain ⟨p, hp, e⟩ := hL.2 k' hk; exact ⟨p, List.mem_cons_of_mem _ hp, e⟩⟩
variable (m)

/-- A row chunk loaded back. -/
theorem x8_load {c : Dev nD} {S L} (hL : GX m c S L) (k : Fin 4) (hk : k ∈ S) :
    x8M.view.readCov L (x8Rect k).toLoadRect = x8M.view.readAt (Elt F) (x8Rect k).toLoadRect (x8Val m c) := by
  obtain ⟨p, hp, e⟩ := hL.2 k hk
  rw [hL.1.readCov x8M.view (x8Rect k) fun y => ⟨p, hp, by rw [e]; exact LoadRect.idx_mem _ y⟩]
  rfl

theorem half_cover (b : Fin 4) (y : S1x4096x512.Idx) : ∃ h : Fin 2, (w8Rect b).emb y ∈ (w8Half b h).set := by
  have h0 : (y 0).val < 1 := (y 0).isLt
  have h1 : (y 1).val < 4096 := (y 1).isLt
  have h2 : (y 2).val < 512 := (y 2).isLt
  refine ⟨⟨(y 1).val / 2048, by omega⟩, ?_⟩
  refine Rect.mem_set_unit.mpr fun a => ?_
  match a with
  | 0 => exact (show b.val ≤ b.val + 1 * (y 0).val ∧ b.val + 1 * (y 0).val < b.val + 1 by omega)
  | 1 => exact (show 2048 * ((y 1).val / 2048) ≤ 0 + 1 * (y 1).val ∧ 0 + 1 * (y 1).val < 2048 * ((y 1).val / 2048) + 2048 by omega)
  | 2 => exact (show 0 ≤ 0 + 1 * (y 2).val ∧ 0 + 1 * (y 2).val < 0 + 512 by omega)

/-- A block of the cast weights loaded back. -/
theorem w8_load {c : Dev nD} {S L} (hL : GW m c S L) (b : Fin 4) (h0 : (b, 0) ∈ S) (h1 : (b, 1) ∈ S) :
    w8M.view.readCov L (w8Rect b).toLoadRect = w8M.view.readAt (Elt F) (w8Rect b).toLoadRect (w8Val m c) := by
  have hS : ∀ h : Fin 2, ∃ p ∈ L, p.1 = w8Half b h := fun h => match h with
    | 0 => hL.2 (b, 0) h0
    | 1 => hL.2 (b, 1) h1
  rw [hL.1.readCov w8M.view (w8Rect b) fun y => by
    obtain ⟨h, hh⟩ := half_cover b y
    obtain ⟨p, hp, e⟩ := hS h
    exact ⟨p, hp, by rw [e]; exact hh⟩]
  rfl

/-- The product of a loaded row chunk and a loaded block is the chunk that the protocol promises. -/
theorem dot_eq {c : Dev nD} {S L T M} (P : Vec F S256x4096 .fp8e4m3 → Vec F S1x4096x512 .fp8e5m2 → FVec F S1x256x512 .bf16)
    (hP : ∀ x w, P x w = k0_pay5 x w) (hX : GX m c S L) (hW : GW m c T M) (b : Fin 3) (k : Fin 4) (hk : k ∈ S) (h0 : (tr b, 0) ∈ T) (h1 : (tr b, 1) ∈ T) :
    P (x8M.view.readCov L (x8Rect k).toLoadRect) (w8M.view.readCov M (w8Rect (tr b)).toLoadRect) = chunkDot m c b k := by
  rw [hP, x8_load m hX k hk, w8_load m hW (tr b) h0 h1, chunkDot]

/-- A chunk of the send buffer over the promised product holds its final contents. -/
theorem sent (c : Dev nD) (b : Fin 3) (k : Fin 4) (f : (cc0_scratch4 : Ref sig .tc).ty.Contents (Elt F)) (w : (chunkRect b k).shape.Idx → Elt F .bf16) (hw : w = chunkDot m c b k) :
    sPts c b k ((sbM.access (chunkRect b k)).write (Elt F) f w Finset.univ) = sPts c b k (sendVal m c) := by
  subst hw
  unfold sPts
  refine pointsTo_congr fun i hi => ?_
  obtain ⟨x, -, rfl⟩ := Finset.mem_map.mp hi
  have hx : ((sChunk b k).view.emb x : S3x1024x512.Idx) = (chunkRect b k).emb (Shape.reshapeEquiv squeezes_S1x256x512_S256x512.numel_eq x) := rfl
  generalize Shape.reshapeEquiv squeezes_S1x256x512_S256x512.numel_eq x = z at hx
  have z0 : (z 0).val < 1 := (z 0).isLt
  have z1 : (z 1).val < 256 := (z 1).isLt
  have e0 : (chunkRect b k).emb z 0 = b := Fin.ext (show b.val + 1 * (z 0).val = b.val by omega)
  have e1 : chunkOf ((chunkRect b k).emb z) = k := Fin.ext (show (256 * k.val + 1 * (z 1).val) / 256 = k.val by omega)
  have e2 : inChunk ((chunkRect b k).emb z) = z := by
    funext a
    match a with
    | 0 => exact Fin.ext (show 0 = (z 0).val by omega)
    | 1 => exact Fin.ext (show (256 * k.val + 1 * (z 1).val) % 256 = (z 1).val by omega)
    | 2 => exact Fin.ext (show 0 + 1 * (z 2).val = (z 2).val by omega)
  have hs : sendVal m c ((sChunk b k).view.emb x) = chunkDot m c b k z := by
    rw [hx]; unfold sendVal; rw [e0, e1, e2]
  rw [hs]
  have hy : (sChunk b k).view.emb x = (sbM.access (chunkRect b k)).emb z := hx
  rw [hy, View.write_emb_of_mem _ _ (Finset.mem_univ z)]
  rfl

end Cert.KernelIdeal.Exchange

end
-- ==== Proof.KernelIdeal.Pieces.lean ====
/-
# The buffers in pieces

The scratch buffers and the result's array held in the pieces the transfers move, and joined again.
-/
module

public import proofs.«01_k».proof.Proof.KernelIdeal.Contents
public import Idealize.ShloMosaic.Lib.Pipeline.Value
public import Idealize.ShloMosaic.Lib.Pointwise.ElementwiseCore

@[expose] public section

set_option maxRecDepth 16384

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## A buffer held in pieces -/

/-- A buffer is its pieces, when each position lies in just one of them: at one contents, -/
theorem pieces_eq {ℓ : Loc nD τ sig} {T : Type} [Fintype T] [DecidableEq T] (K : T → Finset (Idx ℓ)) (t : Idx ℓ → T) (h : ∀ s j, j ∈ K s ↔ t j = s)
    (q : PosShare TreeShare) (f : Buf (Elt F) ℓ) :
    (ℓ ↦{q} f : sProp 𝕄) = bigSep Finset.univ fun s => ℓ ↦[K s]{q} f := by
  rw [← pointsTo_biUnion _ _ fun s _ s' _ hs => Finset.disjoint_left.mpr fun j hj hj' => hs (((h s j).mp hj).symm.trans ((h s' j).mp hj'))]
  refine congrArg (fun A => (ℓ ↦[A]{q} f : sProp 𝕄)) (Finset.ext fun j => ⟨fun _ => ?_, fun _ => Finset.mem_univ _⟩)
  exact Finset.mem_biUnion.mpr ⟨t j, Finset.mem_univ _, (h _ j).mpr rfl⟩

/-- and at whatever each of them holds. -/
theorem pieces_join {ℓ : Loc nD τ sig} {T : Type} [Fintype T] [DecidableEq T] (K : T → Finset (Idx ℓ)) (t : Idx ℓ → T) (h : ∀ s j, j ∈ K s ↔ t j = s)
    (q : PosShare TreeShare) (f₀ : Buf (Elt F) ℓ) :
    (bigSep Finset.univ fun s => iprop(∃ f : Buf (Elt F) ℓ, ℓ ↦[K s]{q} f) : sProp 𝕄) ⊢ iprop(∃ f : Buf (Elt F) ℓ, ℓ ↦{q} f) := by
  have hU : Finset.univ.biUnion K = Finset.univ := Finset.ext fun j => ⟨fun _ => Finset.mem_univ _, fun _ =>
    Finset.mem_biUnion.mpr ⟨t j, Finset.mem_univ _, (h _ j).mpr rfl⟩⟩
  refine (bigSep_exists_pi Finset.univ fun s f => (ℓ ↦[K s]{q} f : sProp 𝕄)).trans ?_
  iintro ⟨%fs, H⟩
  ihave H' := (pointsTo_biUnion_join (Ix := Unit) Finset.univ K fs f₀ fun s _ s' _ hs =>
    Finset.disjoint_left.mpr fun j hj hj' => hs (((h s j).mp hj).symm.trans ((h s' j).mp hj'))) $$ H
  rw [hU]
  icases H' with ⟨%g, -, Hg⟩
  iexists g
  iexact Hg

omit [FloatOps F] in
theorem mem_piece (r : Ref sig .tc) (b : Rect r.ty.shape) (j : r.ty.Idx) {t : Shape} (h : t.numel = b.shape.numel) :
    j ∈ (((View.whole r).slice b).reshape t h).set ↔ j ∈ b.set := by
  rw [View.set_reshape, View.set_slice_whole]

omit [FloatOps F] in
theorem mem_slice (r : Ref sig .tc) (b : Rect r.ty.shape) (j : r.ty.Idx) : j ∈ ((View.whole r).slice b).set ↔ j ∈ b.set := by
  rw [View.set_slice_whole]

/-! ## Which positions a piece covers -/

omit [FloatOps F] in
theorem mem_xSlot (s : Fin 4) (j : S4x256x4096.Idx) : j ∈ (xSlot s).view.set ↔ j 0 = s := by
  refine (mem_piece cc0_scratch0 _ j _).trans (Rect.mem_set_unit.trans ⟨fun h => Fin.ext ?_, fun h a => ?_⟩)
  · have h0 : s.val ≤ (j 0).val ∧ (j 0).val < s.val + 1 := h 0
    omega
  · subst h
    have h1 : (j 1).val < 256 := (j 1).isLt
    have h2 : (j 2).val < 4096 := (j 2).isLt
    match a with
    | 0 => exact ⟨Nat.le_refl _, Nat.lt_succ_self _⟩
    | 1 => exact ⟨Nat.zero_le _, show (j 1).val < 0 + 256 by omega⟩
    | 2 => exact ⟨Nat.zero_le _, show (j 2).val < 0 + 4096 by omega⟩

omit [FloatOps F] in
theorem mem_wSlot (s : Fin 3) (j : S3x2048x512.Idx) : j ∈ (wSlot s).view.set ↔ j 0 = s := by
  refine (mem_piece cc0_scratch1 _ j _).trans (Rect.mem_set_unit.trans ⟨fun h => Fin.ext ?_, fun h a => ?_⟩)
  · have h0 : s.val ≤ (j 0).val ∧ (j 0).val < s.val + 1 := h 0
    omega
  · subst h
    have h1 : (j 1).val < 2048 := (j 1).isLt
    have h2 : (j 2).val < 512 := (j 2).isLt
    match a with
    | 0 => exact ⟨Nat.le_refl _, Nat.lt_succ_self _⟩
    | 1 => exact ⟨Nat.zero_le _, show (j 1).val < 0 + 2048 by omega⟩
    | 2 => exact ⟨Nat.zero_le _, show (j 2).val < 0 + 512 by omega⟩

omit [FloatOps F] in
theorem mem_oSlot (s : Fin 2) (j : S2x1024x512.Idx) : j ∈ (oSlot s).view.set ↔ j 0 = s := by
  refine (mem_piece cc0_scratch6 _ j _).trans (Rect.mem_set_unit.trans ⟨fun h => Fin.ext ?_, fun h a => ?_⟩)
  · have h0 : s.val ≤ (j 0).val ∧ (j 0).val < s.val + 1 := h 0
    omega
  · subst h
    have h1 : (j 1).val < 1024 := (j 1).isLt
    have h2 : (j 2).val < 512 := (j 2).isLt
    match a with
    | 0 => exact ⟨Nat.le_refl _, Nat.lt_succ_self _⟩
    | 1 => exact ⟨Nat.zero_le _, show (j 1).val < 0 + 1024 by omega⟩
    | 2 => exact ⟨Nat.zero_le _, show (j 2).val < 0 + 512 by omega⟩

omit [FloatOps F] in
theorem mem_rSlab (s : Fin 3) (j : S3x1024x512.Idx) : j ∈ (rSlab s).view.set ↔ j 0 = s := by
  refine (mem_piece cc0_scratch5 _ j _).trans (Rect.mem_set_unit.trans ⟨fun h => Fin.ext ?_, fun h a => ?_⟩)
  · have h0 : s.val ≤ (j 0).val ∧ (j 0).val < s.val + 1 := h 0
    omega
  · subst h
    have h1 : (j 1).val < 1024 := (j 1).isLt
    have h2 : (j 2).val < 512 := (j 2).isLt
    match a with
    | 0 => exact ⟨Nat.le_refl _, Nat.lt_succ_self _⟩
    | 1 => exact ⟨Nat.zero_le _, show (j 1).val < 0 + 1024 by omega⟩
    | 2 => exact ⟨Nat.zero_le _, show (j 2).val < 0 + 512 by omega⟩

omit [FloatOps F] in
theorem mem_sChunk (b : Fin 3) (k : Fin 4) (j : S3x1024x512.Idx) : j ∈ (sChunk b k).view.set ↔ (j 0 = b ∧ chunkOf j = k) := by
  refine (mem_piece cc0_scratch4 _ j _).trans (Rect.mem_set_unit.trans ⟨fun h => ⟨Fin.ext ?_, Fin.ext ?_⟩, fun h a => ?_⟩)
  · have h0 : b.val ≤ (j 0).val ∧ (j 0).val < b.val + 1 := h 0
    omega
  · have h1 : 256 * k.val ≤ (j 1).val ∧ (j 1).val < 256 * k.val + 256 := h 1
    show (j 1).val / 256 = k.val
    omega
  · obtain ⟨h0, h1⟩ := h
    have h1 : (j 1).val / 256 = k.val := congrArg Fin.val h1
    have h2 : (j 2).val < 512 := (j 2).isLt
    subst h0
    match a with
    | 0 => exact ⟨Nat.le_refl _, Nat.lt_succ_self _⟩
    | 1 => exact ⟨show 256 * k.val ≤ (j 1).val by omega, show (j 1).val < 256 * k.val + 256 by omega⟩
    | 2 => exact ⟨Nat.zero_le _, show (j 2).val < 0 + 512 by omega⟩

omit [FloatOps F] in
theorem mem_rChunk (b : Fin 3) (k : Fin 4) (j : S3x1024x512.Idx) : j ∈ (rChunk b k).view.set ↔ (j 0 = b ∧ chunkOf j = k) := by
  refine (mem_piece cc0_scratch5 _ j _).trans (Rect.mem_set_unit.trans ⟨fun h => ⟨Fin.ext ?_, Fin.ext ?_⟩, fun h a => ?_⟩)
  · have h0 : b.val ≤ (j 0).val ∧ (j 0).val < b.val + 1 := h 0
    omega
  · have h1 : 256 * k.val ≤ (j 1).val ∧ (j 1).val < 256 * k.val + 256 := h 1
    show (j 1).val / 256 = k.val
    omega
  · obtain ⟨h0, h1⟩ := h
    have h1 : (j 1).val / 256 = k.val := congrArg Fin.val h1
    have h2 : (j 2).val < 512 := (j 2).isLt
    subst h0
    match a with
    | 0 => exact ⟨Nat.le_refl _, Nat.lt_succ_self _⟩
    | 1 => exact ⟨show 256 * k.val ≤ (j 1).val by omega, show (j 1).val < 256 * k.val + 256 by omega⟩
    | 2 => exact ⟨Nat.zero_le _, show (j 2).val < 0 + 512 by omega⟩

/-! ## Rows of the result -/

/-- The rows that block `b` of device `c`'s result fills: those of the device the block came from. -/
abbrev oRow3 (c : Dev nD) : Memref sig .tc .hbm S1024x512 .f32 := oM.slice (Rect.unit (s := S4096x512) (k0_off3 c) S1024x512.size (k0_off3_inb c)) (fun _ => rfl)
abbrev oRow0 (c : Dev nD) : Memref sig .tc .hbm S1024x512 .f32 := oM.slice (Rect.unit (s := S4096x512) (k0_off4 c 1#32) S1024x512.size (k0_off4_inb c 0)) (fun _ => rfl)
abbrev oRow1 (c : Dev nD) : Memref sig .tc .hbm S1024x512 .f32 := oM.slice (Rect.unit (s := S4096x512) (k0_off4 c 3#32) S1024x512.size (k0_off4_inb c 2)) (fun _ => rfl)
abbrev oRow2 (c : Dev nD) : Memref sig .tc .hbm S1024x512 .f32 := oM.slice (Rect.unit (s := S4096x512) (k0_off4 c 2#32) S1024x512.size (k0_off4_inb c 1)) (fun _ => rfl)
def rowSet (c : Dev nD) : Fin 4 → Finset S4096x512.Idx
  | 0 => (oRow0 c).view.set
  | 1 => (oRow1 c).view.set
  | 2 => (oRow2 c).view.set
  | 3 => (oRow3 c).view.set

theorem rows_eq : ∀ c : Dev nD, k0_off4 c 1#32 = ![1024 * (dn 0 c).val, 0] ∧ k0_off4 c 3#32 = ![1024 * (dn 1 c).val, 0]
    ∧ k0_off4 c 2#32 = ![1024 * (dn 2 c).val, 0] ∧ k0_off3 c = ![1024 * (dn 3 c).val, 0] := by decide +kernel

/-- The block that comes from device `d`. -/
def blk (c d : Dev nD) : Fin 4 := if dn 0 c = d then 0 else if dn 1 c = d then 1 else if dn 2 c = d then 2 else 3
theorem blk_iff : ∀ (c d : Dev nD) (b : Fin 4), blk c d = b ↔ d = dn b c := by decide +kernel

/-- The device whose rows hold position `j` of the result. -/
def rowDev (j : S4096x512.Idx) : Dev nD := ⟨(j 0).val / 1024, by have h : (j 0).val < 4096 := (j 0).isLt; show _ < 4; omega⟩

omit [FloatOps F] in
theorem mem_rows (off : Fin 2 → ℕ) (inb) (d : Dev nD) (hoff : off = ![1024 * d.val, 0]) (j : S4096x512.Idx) :
    j ∈ (oM.slice (Rect.unit (s := S4096x512) off S1024x512.size inb) (fun _ => rfl)).view.set ↔ rowDev j = d := by
  subst hoff
  refine (mem_slice main_v1 _ j).trans (Rect.mem_set_unit.trans ⟨fun h => Fin.ext ?_, fun h a => ?_⟩)
  · have h0 : 1024 * d.val ≤ (j 0).val ∧ (j 0).val < 1024 * d.val + 1024 := h 0
    show (j 0).val / 1024 = d.val
    omega
  · have h0 : (j 0).val / 1024 = d.val := congrArg Fin.val h
    have h1 : (j 1).val < 512 := (j 1).isLt
    match a with
    | 0 => exact ⟨show 1024 * d.val ≤ (j 0).val by omega, show (j 0).val < 1024 * d.val + 1024 by omega⟩
    | 1 => exact ⟨Nat.zero_le _, show (j 1).val < 0 + 512 by omega⟩

omit [FloatOps F] in
theorem mem_rowSet (c : Dev nD) (b : Fin 4) (j : S4096x512.Idx) : j ∈ rowSet c b ↔ blk c (rowDev j) = b := by
  rw [blk_iff]
  match b with
  | 0 => exact mem_rows _ _ _ (rows_eq c).1 j
  | 1 => exact mem_rows _ _ _ (rows_eq c).2.1 j
  | 2 => exact mem_rows _ _ _ (rows_eq c).2.2.1 j
  | 3 => exact mem_rows _ _ _ (rows_eq c).2.2.2 j

/-! ## Whole buffers and their pieces -/

theorem xs_split (c : Dev nD) (f) : ((c : Thread nD τ).loc cc0_scratch0 ↦{fullShare} f : sProp 𝕄) ⊢ iprop(pts (xSlot 0) c fullShare f ∗ pts (xSlot 1) c fullShare f ∗ pts (xSlot 2) c fullShare f ∗ pts (xSlot 3) c fullShare f) := by
  rw [pieces_eq (ℓ := (c : Thread nD τ).loc cc0_scratch0) (fun i => (xSlot i).view.set) (fun j : S4x256x4096.Idx => j 0) mem_xSlot, bigSep_univ_eq_bigSepL [0, 1, 2, 3] (by decide) (by decide)]
  exact Entails.of_eq rfl
theorem xs_join (c : Dev nD) : iprop((∃ f, pts (F := F) (xSlot 0) c fullShare f) ∗ (∃ f, pts (F := F) (xSlot 1) c fullShare f) ∗ (∃ f, pts (F := F) (xSlot 2) c fullShare f) ∗ (∃ f, pts (F := F) (xSlot 3) c fullShare f)) ⊢ iprop(∃ f, (c : Thread nD τ).loc cc0_scratch0 ↦{fullShare} f : sProp 𝕄) := by
  refine (Entails.of_eq ?_).trans (pieces_join (ℓ := (c : Thread nD τ).loc cc0_scratch0) (fun i => (xSlot i).view.set) (fun j : S4x256x4096.Idx => j 0) mem_xSlot fullShare fun _ => default)
  rw [bigSep_univ_eq_bigSepL [0, 1, 2, 3] (by decide) (by decide)]
  rfl

theorem ws_split (c : Dev nD) (f) : ((c : Thread nD τ).loc cc0_scratch1 ↦{fullShare} f : sProp 𝕄) ⊢ iprop(pts (wSlot 0) c fullShare f ∗ pts (wSlot 1) c fullShare f ∗ pts (wSlot 2) c fullShare f) := by
  rw [pieces_eq (ℓ := (c : Thread nD τ).loc cc0_scratch1) (fun i => (wSlot i).view.set) (fun j : S3x2048x512.Idx => j 0) mem_wSlot, bigSep_univ_eq_bigSepL [0, 1, 2] (by decide) (by decide)]
  exact Entails.of_eq rfl
theorem ws_join (c : Dev nD) : iprop((∃ f, pts (F := F) (wSlot 0) c fullShare f) ∗ (∃ f, pts (F := F) (wSlot 1) c fullShare f) ∗ (∃ f, pts (F := F) (wSlot 2) c fullShare f)) ⊢ iprop(∃ f, (c : Thread nD τ).loc cc0_scratch1 ↦{fullShare} f : sProp 𝕄) := by
  refine (Entails.of_eq ?_).trans (pieces_join (ℓ := (c : Thread nD τ).loc cc0_scratch1) (fun i => (wSlot i).view.set) (fun j : S3x2048x512.Idx => j 0) mem_wSlot fullShare fun _ => default)
  rw [bigSep_univ_eq_bigSepL [0, 1, 2] (by decide) (by decide)]
  rfl

theorem os_split (c : Dev nD) (f) : ((c : Thread nD τ).loc cc0_scratch6 ↦{fullShare} f : sProp 𝕄) ⊢ iprop(pts (oSlot 0) c fullShare f ∗ pts (oSlot 1) c fullShare f) := by
  rw [pieces_eq (ℓ := (c : Thread nD τ).loc cc0_scratch6) (fun i => (oSlot i).view.set) (fun j : S2x1024x512.Idx => j 0) mem_oSlot, bigSep_univ_eq_bigSepL [0, 1] (by decide) (by decide)]
  exact Entails.of_eq rfl
theorem os_join (c : Dev nD) : iprop((∃ f, pts (F := F) (oSlot 0) c fullShare f) ∗ (∃ f, pts (F := F) (oSlot 1) c fullShare f)) ⊢ iprop(∃ f, (c : Thread nD τ).loc cc0_scratch6 ↦{fullShare} f : sProp 𝕄) := by
  refine (Entails.of_eq ?_).trans (pieces_join (ℓ := (c : Thread nD τ).loc cc0_scratch6) (fun i => (oSlot i).view.set) (fun j : S2x1024x512.Idx => j 0) mem_oSlot fullShare fun _ => default)
  rw [bigSep_univ_eq_bigSepL [0, 1] (by decide) (by decide)]
  rfl

theorem sb_split (c : Dev nD) (f) : ((c : Thread nD τ).loc cc0_scratch4 ↦{fullShare} f : sProp 𝕄) ⊢ iprop(pts (sChunk 0 0) c fullShare f ∗ pts (sChunk 0 1) c fullShare f ∗ pts (sChunk 0 2) c fullShare f ∗ pts (sChunk 0 3) c fullShare f ∗ pts (sChunk 1 0) c fullShare f ∗ pts (sChunk 1 1) c fullShare f ∗ pts (sChunk 1 2) c fullShare f ∗ pts (sChunk 1 3) c fullShare f ∗ pts (sChunk 2 0) c fullShare f ∗ pts (sChunk 2 1) c fullShare f ∗ pts (sChunk 2 2) c fullShare f ∗ pts (sChunk 2 3) c fullShare f) := by
  rw [pieces_eq (ℓ := (c : Thread nD τ).loc cc0_scratch4) (fun p : Fin 3 × Fin 4 => (sChunk p.1 p.2).view.set) (fun j : S3x1024x512.Idx => (j 0, chunkOf j))
    (fun p j => (mem_sChunk p.1 p.2 j).trans ⟨fun h => Prod.ext h.1 h.2, fun h => ⟨congrArg Prod.fst h, congrArg Prod.snd h⟩⟩), bigSep_univ_eq_bigSepL [(0, 0), (0, 1), (0, 2), (0, 3), (1, 0), (1, 1), (1, 2), (1, 3), (2, 0), (2, 1), (2, 2), (2, 3)] (by decide) (by decide)]
  exact Entails.of_eq rfl
theorem sb_join (c : Dev nD) : iprop((∃ f, sPts (F := F) c 0 0 f) ∗ (∃ f, sPts (F := F) c 0 1 f) ∗ (∃ f, sPts (F := F) c 0 2 f) ∗ (∃ f, sPts (F := F) c 0 3 f) ∗ (∃ f, sPts (F := F) c 1 0 f) ∗ (∃ f, sPts (F := F) c 1 1 f) ∗ (∃ f, sPts (F := F) c 1 2 f) ∗ (∃ f, sPts (F := F) c 1 3 f) ∗ (∃ f, sPts (F := F) c 2 0 f) ∗ (∃ f, sPts (F := F) c 2 1 f) ∗ (∃ f, sPts (F := F) c 2 2 f) ∗ (∃ f, sPts (F := F) c 2 3 f)) ⊢ iprop(∃ f, (c : Thread nD τ).loc cc0_scratch4 ↦{fullShare} f : sProp 𝕄) := by
  refine (Entails.of_eq ?_).trans (pieces_join (ℓ := (c : Thread nD τ).loc cc0_scratch4) (fun p : Fin 3 × Fin 4 => (sChunk p.1 p.2).view.set) (fun j : S3x1024x512.Idx => (j 0, chunkOf j))
    (fun p j => (mem_sChunk p.1 p.2 j).trans ⟨fun h => Prod.ext h.1 h.2, fun h => ⟨congrArg Prod.fst h, congrArg Prod.snd h⟩⟩) fullShare fun _ => default)
  rw [bigSep_univ_eq_bigSepL [(0, 0), (0, 1), (0, 2), (0, 3), (1, 0), (1, 1), (1, 2), (1, 3), (2, 0), (2, 1), (2, 2), (2, 3)] (by decide) (by decide)]
  rfl

/-- A slab of the receive buffer is its four chunks. -/
theorem slab_eq (c : Dev nD) (b : Fin 3) (f) : (pts (rSlab b) c fullShare f : sProp 𝕄) = bigSep Finset.univ fun k => rPts (F := F) c b k f := by
  unfold pts rPts
  rw [← pointsTo_biUnion (ℓ := (c : Thread nD τ).loc cc0_scratch5) Finset.univ (fun k => (rChunk b k).view.set) fun k _ k' _ hk => Finset.disjoint_left.mpr fun j hj hj' =>
    hk (((mem_rChunk b k j).mp hj).2.symm.trans ((mem_rChunk b k' j).mp hj').2)]
  refine congrArg (fun A => ((c : Thread nD τ).loc cc0_scratch5 ↦[A]{fullShare} f : sProp 𝕄)) (Finset.ext fun j => ?_)
  refine (mem_rSlab b j).trans ⟨fun h => Finset.mem_biUnion.mpr ⟨chunkOf j, Finset.mem_univ _, (mem_rChunk b _ j).mpr ⟨h, rfl⟩⟩, fun h => ?_⟩
  obtain ⟨k, -, hk⟩ := Finset.mem_biUnion.mp h
  exact ((mem_rChunk b k j).mp hk).1

/-- A received slab, whole again once its four chunks have arrived. -/
theorem slab_whole (c : Dev nD) (b : Fin 3) (f) : iprop(rPts (F := F) c b 0 f ∗ rPts c b 1 f ∗ rPts c b 2 f ∗ rPts c b 3 f) ⊢ (rSlab b).view.loc (c : Thread nD τ) ↦[(rSlab b).view.set]{fullShare} f := by
  show _ ⊢ pts (rSlab b) c fullShare f
  rw [slab_eq, bigSep_univ_eq_bigSepL [0, 1, 2, 3] (by decide) (by decide)]
  exact Entails.of_eq rfl

theorem rb_split (c : Dev nD) (f) : ((c : Thread nD τ).loc cc0_scratch5 ↦{fullShare} f : sProp 𝕄) ⊢ iprop(ownSlab c 0 ∗ ownSlab c 1 ∗ ownSlab c 2) := by
  have hs : ∀ b, (pts (rSlab b) c fullShare f : sProp 𝕄) ⊢ ownSlab c b := fun b => by
    rw [slab_eq]
    unfold ownSlab
    have hk : ∀ k, (rPts c b k f : sProp 𝕄) ⊢ iprop(∃ f, rPts (F := F) c b k f) := fun k => by iintro H; iexists f; iexact H
    exact bigSep_mono fun k _ => hk k
  rw [pieces_eq (ℓ := (c : Thread nD τ).loc cc0_scratch5) (fun i => (rSlab i).view.set) (fun j : S3x1024x512.Idx => j 0) mem_rSlab, bigSep_univ_eq_bigSepL [0, 1, 2] (by decide) (by decide)]
  show iprop(pts (rSlab 0) c fullShare f ∗ pts (rSlab 1) c fullShare f ∗ pts (rSlab 2) c fullShare f) ⊢ _
  iintro ⟨H0, H1, H2⟩
  isplitl [H0]; · iapply (hs 0) $$ H0
  isplitl [H1]; · iapply (hs 1) $$ H1
  iapply (hs 2) $$ H2
theorem rb_join (c : Dev nD) : iprop((∃ f, pts (F := F) (rSlab 0) c fullShare f) ∗ (∃ f, pts (F := F) (rSlab 1) c fullShare f) ∗ (∃ f, pts (F := F) (rSlab 2) c fullShare f)) ⊢ iprop(∃ f, (c : Thread nD τ).loc cc0_scratch5 ↦{fullShare} f : sProp 𝕄) := by
  refine (Entails.of_eq ?_).trans (pieces_join (ℓ := (c : Thread nD τ).loc cc0_scratch5) (fun i => (rSlab i).view.set) (fun j : S3x1024x512.Idx => j 0) mem_rSlab fullShare fun _ => default)
  rw [bigSep_univ_eq_bigSepL [0, 1, 2] (by decide) (by decide)]
  rfl

/-- The result's array is its four row blocks. -/
theorem rows_split (c : Dev nD) (f) : ((c : Thread nD τ).loc main_v1 ↦{fullShare} f : sProp 𝕄)
    = iprop(pts (oRow0 c) c fullShare f ∗ pts (oRow1 c) c fullShare f ∗ pts (oRow2 c) c fullShare f ∗ pts (oRow3 c) c fullShare f) := by
  rw [pieces_eq (ℓ := (c : Thread nD τ).loc main_v1) (rowSet c) (fun j : S4096x512.Idx => blk c (rowDev j)) (mem_rowSet c), bigSep_univ_eq_bigSepL [0, 1, 2, 3] (by decide) (by decide)]
  rfl

/-! ## What the result holds -/

/-- Block `b` of the result at the scale `s`: the device's own product, or the scaled slab it received. -/
def outBlk (c : Dev nD) (s : Elt F .f32) : Fin 4 → FVec F S1x1024x512 .f32
  | 3 => k0_pay28 s (x8Val m c) (w8M.view.readAt (Elt F) (w8Rect 3).toLoadRect (w8Val m c))
  | b => k0_pay29 s (rbM.view.readAt (Elt F) (Rect.unit (s := S3x1024x512) ![b.val % 3, 0, 0] S1x1024x512.size (inb_slab ⟨b.val % 3, Nat.mod_lt _ (by decide)⟩)).toLoadRect (recvVal m c))

/-- A position within its row block. -/
def inRow (j : S4096x512.Idx) : S1024x512.Idx := fun a =>
  ⟨(![(j 0).val % 1024, (j 1).val] : Fin 2 → ℕ) a, by
    have h₁ : (j 1).val < 512 := (j 1).isLt
    match a with
    | 0 => exact Nat.mod_lt _ (by decide)
    | 1 => exact h₁⟩

/-- The result of device `c` at the scale `s`. -/
def outVal (c : Dev nD) (s : Elt F .f32) : (main_v1 : Ref sig .tc).ty.Contents (Elt F) := fun j : S4096x512.Idx =>
  shapeCast S1024x512 (outBlk m c s (blk c (rowDev j))) shapeCasts_S1x1024x512_S1024x512 (inRow j)

/-- What a stage slot holds is read out as it was stored. -/
theorem slot_stored {sp : Space} {s t : Shape} {e : EltTy} (M : Memref sig .tc sp s e) (r : Rect s) (hr) (hs : r.shape.Squeezes t)
    (f) (w : r.shape.Idx → Elt F e) (hc : r.shape.ShapeCasts t) :
    ((M.slice r hr).squeeze t hs).view.read (Elt F) ((M.access r).write (Elt F) f w Finset.univ) = shapeCast t w hc := by
  funext y
  exact congrFun (View.read_write_univ (v := M.view.slice r) f w) (Shape.reshapeEquiv hs.numel_eq y)

/-- A view written whole with what it reads of `G` agrees with `G` there. -/
theorem view_filled {sp : Space} {s : Shape} {e : EltTy} (v : View sig .tc sp s e) (g G : v.ty.Contents (Elt F)) (w : s.Idx → Elt F e) (hw : ∀ y, w y = v.read (Elt F) G y) :
    ∀ i ∈ v.set, v.writes (Elt F) g [⟨Rect.whole s, w⟩] i = G i := by
  intro i hi
  obtain ⟨y, -, rfl⟩ := Finset.mem_map.mp hi
  have h := (congrFun (View.read_writes_whole (Val := Elt F) v g w) y).trans (hw y)
  rw [View.read_apply, View.read_apply] at h
  exact (cast_inj _).mp h

theorem outVal_row (c : Dev nD) (b : Fin 4) (s : Elt F .f32) (inb) (y : S1024x512.Idx) :
    outVal m c s ((Rect.unit (s := S4096x512) ![1024 * (dn b c).val, 0] S1024x512.size inb).emb y) = shapeCast S1024x512 (outBlk m c s b) shapeCasts_S1x1024x512_S1024x512 y := by
  have y0 : (y 0).val < 1024 := (y 0).isLt
  have e0 : rowDev ((Rect.unit (s := S4096x512) ![1024 * (dn b c).val, 0] S1024x512.size inb).emb y) = dn b c :=
    Fin.ext (show (1024 * (dn b c).val + 1 * (y 0).val) / 1024 = (dn b c).val by omega)
  have e1 : inRow ((Rect.unit (s := S4096x512) ![1024 * (dn b c).val, 0] S1024x512.size inb).emb y) = y := by
    funext a
    match a with
    | 0 => exact Fin.ext (show (1024 * (dn b c).val + 1 * (y 0).val) % 1024 = (y 0).val by omega)
    | 1 => exact Fin.ext (show 0 + 1 * (y 1).val = (y 1).val by omega)
  unfold outVal
  rw [e0, e1, (blk_iff c (dn b c) b).mpr rfl]

/-- A row block written whole with block `b` holds its part of the result. -/
theorem row_done (c : Dev nD) (b : Fin 4) (s : Elt F .f32) (off : Fin 2 → ℕ) (inb) (hoff : off = ![1024 * (dn b c).val, 0]) (g : (main_v1 : Ref sig .tc).ty.Contents (Elt F))
    (w : S1024x512.Idx → Elt F .f32) (hw : w = shapeCast S1024x512 (outBlk m c s b) shapeCasts_S1x1024x512_S1024x512) :
    (pts (oM.slice (Rect.unit (s := S4096x512) off S1024x512.size inb) (fun _ => rfl)) c fullShare
        ((oM.slice (Rect.unit (s := S4096x512) off S1024x512.size inb) (fun _ => rfl)).view.writes (Elt F) g [⟨Rect.whole S1024x512, w⟩]) : sProp 𝕄)
      = pts (oM.slice (Rect.unit (s := S4096x512) off S1024x512.size inb) (fun _ => rfl)) c fullShare (outVal m c s) := by
  subst hw hoff
  have hf := view_filled (F := F) (oM.slice (Rect.unit (s := S4096x512) ![1024 * (dn b c).val, 0] S1024x512.size inb) (fun _ => rfl)).view g (outVal m c s)
    (shapeCast S1024x512 (outBlk m c s b) shapeCasts_S1x1024x512_S1024x512) (fun y => (outVal_row m c b s inb y).symm)
  exact pointsTo_congr hf

/-! ## The blocks of the result as the body computes them -/

/-- The device's own block, from the cast buffers loaded back whole. -/
theorem own_eq {c : Dev nD} {L M} (s : Elt F .f32) (hX : GX m c [3, 2, 1, 0] L) (hW : GW m c [(3, 1), (3, 0), (2, 1), (2, 0), (1, 1), (1, 0), (0, 1), (0, 0)] M) (inb) :
    k0_pay28 s (x8M.view.readCov L (Rect.unit (s := S1024x4096) ![0, 0] S1024x4096.size inb).toLoadRect) (w8M.view.readCov M (w8Rect 3).toLoadRect) = outBlk m c s 3 := by
  rw [w8_load m hW 3 (by decide) (by decide), hX.1.readCov x8M.view (Rect.unit (s := S1024x4096) ![0, 0] S1024x4096.size inb) fun y => by
    have y0 : (y 0).val < 1024 := (y 0).isLt
    have y1 : (y 1).val < 4096 := (y 1).isLt
    obtain ⟨p, hp, e⟩ := hX.2 ⟨(y 0).val / 256, by omega⟩ (by
      have : ∀ k : Fin 4, k ∈ ([3, 2, 1, 0] : List (Fin 4)) := by decide
      exact this _)
    refine ⟨p, hp, ?_⟩
    rw [e]
    refine Rect.mem_set_unit.mpr fun a => ?_
    match a with
    | 0 => exact ⟨show 256 * ((y 0).val / 256) ≤ 0 + 1 * (y 0).val by omega, show 0 + 1 * (y 0).val < 256 * ((y 0).val / 256) + 256 by omega⟩
    | 1 => exact ⟨Nat.zero_le _, show 0 + 1 * (y 1).val < 0 + 4096 by omega⟩]
  unfold outBlk
  refine congrArg (fun x => k0_pay28 s x _) (funext fun y => congrArg (x8Val m c) (funext fun a => Fin.ext ?_))
  match a with
  | 0 => exact show 0 + 1 * (y 0).val = (y 0).val by omega
  | 1 => exact show 0 + 1 * (y 1).val = (y 1).val by omega

/-- The only position of a factor. -/
def i₀ : S1.Idx := fun a => ⟨0, by revert a; decide⟩

/-- The scale: the product of the two staged factors. -/
def scaleOf (f0 : (cc0_stg0_0 : Ref sig .tc).ty.Contents (Elt F)) (f1 : (cc0_stg1_0 : Ref sig .tc).ty.Contents (Elt F)) : Elt F .f32 :=
  k0_pay1 (f0 i₀) (f1 i₀)

/-- The slab block `b` came in, loaded whole. -/
abbrev slabLoad (c : Dev nD) (b : Fin 3) : Vec F S1x1024x512 .bf16 :=
  rbM.view.readAt (Elt F) (Rect.unit (s := S3x1024x512) ![b.val, 0, 0] S1x1024x512.size (inb_slab b)).toLoadRect (recvVal m c)
theorem blk0_eq (c : Dev nD) (s : Elt F .f32) : k0_pay29 s (slabLoad m c 0) = outBlk m c s 0 := rfl
theorem blk1_eq (c : Dev nD) (s : Elt F .f32) : k0_pay30 s (slabLoad m c 1) = outBlk m c s 1 := rfl
theorem blk2_eq (c : Dev nD) (s : Elt F .f32) : k0_pay32 s (k0_pay31 (slabLoad m c 2)) = outBlk m c s 2 := rfl

end Cert.KernelIdeal.Exchange

end
-- ==== Proof.KernelIdeal.Run.lean ====
/-
# The run of the body

The body of device `c`, from the signals at the barrier to the last wait for a departure.
-/
module

public import proofs.«01_k».proof.Proof.KernelIdeal.Pieces

@[expose] public section

set_option maxRecDepth 16384

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The devices that the body names -/

theorem dev1 (c : Dev nD) : (⟨k0_dev1 c, k0_dev1_lt c⟩ : Dev nD) = dn (tr 1) c := by revert c; decide +kernel
theorem dev2 (c : Dev nD) : (⟨k0_dev2 c, k0_dev2_lt c⟩ : Dev nD) = dn (tr 2) c := by revert c; decide +kernel
theorem dev3 (c : Dev nD) : (⟨k0_dev3 c, k0_dev3_lt c⟩ : Dev nD) = dn (tr 0) c := by revert c; decide +kernel
theorem dev4 (c : Dev nD) : (⟨k0_dev4 c, k0_dev4_lt c⟩ : Dev nD) = up (tr 0) c := by revert c; decide +kernel
theorem dev5 (c : Dev nD) : (⟨k0_dev5 c, k0_dev5_lt c⟩ : Dev nD) = up (tr 1) c := by revert c; decide +kernel
theorem dev6 (c : Dev nD) : (⟨k0_dev6 c, k0_dev6_lt c⟩ : Dev nD) = up (tr 0) c := by revert c; decide +kernel
theorem dev7 (c : Dev nD) : (⟨k0_dev7 c, k0_dev7_lt c⟩ : Dev nD) = up (tr 1) c := by revert c; decide +kernel
theorem dev8 (c : Dev nD) : (⟨k0_dev8 c, k0_dev8_lt c⟩ : Dev nD) = up (tr 0) c := by revert c; decide +kernel
theorem dev9 (c : Dev nD) : (⟨k0_dev9 c, k0_dev9_lt c⟩ : Dev nD) = up (tr 1) c := by revert c; decide +kernel
theorem dev10 (c : Dev nD) : (⟨k0_dev10 c, k0_dev10_lt c⟩ : Dev nD) = up (tr 0) c := by revert c; decide +kernel
theorem dev11 (c : Dev nD) : (⟨k0_dev11 c, k0_dev11_lt c⟩ : Dev nD) = up (tr 1) c := by revert c; decide +kernel
theorem dev12 (c : Dev nD) : (⟨k0_dev12 c, k0_dev12_lt c⟩ : Dev nD) = up (tr 2) c := by revert c; decide +kernel
theorem dev13 (c : Dev nD) : (⟨k0_dev13 c, k0_dev13_lt c⟩ : Dev nD) = up (tr 2) c := by revert c; decide +kernel
theorem dev14 (c : Dev nD) : (⟨k0_dev14 c, k0_dev14_lt c⟩ : Dev nD) = up (tr 2) c := by revert c; decide +kernel
theorem dev15 (c : Dev nD) : (⟨k0_dev15 c, k0_dev15_lt c⟩ : Dev nD) = up (tr 2) c := by revert c; decide +kernel

variable (K : Dev nD × CI → ℕ)

theorem credit_w (b : Fin 3) (k : Fin 4) : (rChunk b k).view.dmaCredit = N := rfl
theorem credit_s (b : Fin 3) (k : Fin 4) : (sChunk b k).view.dmaCredit = N := rfl

/-- What the body leaves: the arguments, the result at the scale `s`, every buffer whole, every semaphore at zero. -/
def Done (c : Dev nD) (f0 : (cc0_stg0_0 : Ref sig .tc).ty.Contents (Elt F)) (f1 : (cc0_stg1_0 : Ref sig .tc).ty.Contents (Elt F)) : sProp 𝕄 :=
  iprop((∃ W, owes (c : Thread nD τ) 0 W)
    ∗ pts (Memref.whole cc0_stg0_0) c fullShare f0 ∗ pts (Memref.whole cc0_stg1_0) c fullShare f1
    ∗ (pts xM c (Transfers.shareTok fullShare 2 0) (xArg m c) ∗ pts xM c (Transfers.shareTok fullShare 2 1) (xArg m c))
    ∗ (pts wM c (Transfers.shareTok fullShare 3 0) (wArg m c) ∗ pts wM c (Transfers.shareTok fullShare 3 1) (wArg m c) ∗ pts wM c (Transfers.shareTok fullShare 3 2) (wArg m c))
    ∗ ((c : Thread nD τ).loc main_v1 ↦{fullShare} outVal m c (scaleOf f0 f1))
    ∗ ((∃ f, (c : Thread nD τ).loc cc0_scratch0 ↦{fullShare} f) ∗ (∃ f, (c : Thread nD τ).loc cc0_scratch1 ↦{fullShare} f)
      ∗ (∃ f, (c : Thread nD τ).loc cc0_scratch2 ↦{fullShare} f) ∗ (∃ f, (c : Thread nD τ).loc cc0_scratch3 ↦{fullShare} f)
      ∗ (∃ f, (c : Thread nD τ).loc cc0_scratch4 ↦{fullShare} f) ∗ (∃ f, (c : Thread nD τ).loc cc0_scratch5 ↦{fullShare} f)
      ∗ (∃ f, (c : Thread nD τ).loc cc0_scratch6 ↦{fullShare} f))
    ∗ semVal (barCell c) 0
    ∗ semVal ((c : Thread nD τ), .dma 2) 0 ∗ semVal ((c : Thread nD τ), .dma 3) 0 ∗ semVal ((c : Thread nD τ), .dma 4) 0 ∗ semVal ((c : Thread nD τ), .dma 5) 0 ∗ semVal ((c : Thread nD τ), .dma 6) 0 ∗ semVal ((c : Thread nD τ), .dma 7) 0 ∗ semVal ((c : Thread nD τ), .dma 8) 0 ∗ semVal ((c : Thread nD τ), .dma 9) 0 ∗ semVal ((c : Thread nD τ), .dma 10) 0 ∗ semVal ((c : Thread nD τ), .dma 11) 0 ∗ semVal ((c : Thread nD τ), .dma 12) 0 ∗ semVal ((c : Thread nD τ), .dma 13) 0 ∗ semVal ((c : Thread nD τ), .dma 14) 0 ∗ semVal ((c : Thread nD τ), .dma 15) 0 ∗ semVal ((c : Thread nD τ), .dma 16) 0 ∗ semVal ((c : Thread nD τ), .dma 17) 0 ∗ semVal ((c : Thread nD τ), .dma 18) 0 ∗ semVal ((c : Thread nD τ), .dma 19) 0 ∗ semVal ((c : Thread nD τ), .dma 20) 0 ∗ semVal ((c : Thread nD τ), .dma 21) 0 ∗ semVal ((c : Thread nD τ), .dma 22) 0 ∗ semVal ((c : Thread nD τ), .dma 23) 0 ∗ semVal ((c : Thread nD τ), .dma 24) 0 ∗ semVal ((c : Thread nD τ), .dma 25) 0 ∗ semVal ((c : Thread nD τ), .dma 26) 0 ∗ semVal ((c : Thread nD τ), .dma 27) 0 ∗ semVal ((c : Thread nD τ), .dma 28) 0 ∗ semVal ((c : Thread nD τ), .dma 29) 0 ∗ semVal ((c : Thread nD τ), .dma 30) 0 ∗ semVal ((c : Thread nD τ), .dma 31) 0 ∗ semVal ((c : Thread nD τ), .dma 32) 0 ∗ semVal ((c : Thread nD τ), .dma 33) 0 ∗ semVal ((c : Thread nD τ), .dma 34) 0)

theorem whole_loc (r : Ref sig .tc) (c : Dev nD) (f : Buf (Elt F) ((c : Thread nD τ).loc r)) :
    ((Memref.whole r).view.loc (c : Thread nD τ) ↦[(Memref.whole r).view.set]{fullShare} f : sProp 𝕄) ⊢ (c : Thread nD τ).loc r ↦{fullShare} f :=
  Entails.of_eq (congrArg (fun A => ((c : Thread nD τ).loc r ↦[A]{fullShare} f : sProp 𝕄)) (View.set_whole r))

omit [FloatOps F] in
theorem eq_i₀ (x : S1.Idx) : x = i₀ := funext fun a => Fin.ext (by
  have h : ∀ a : Fin 1, ∀ y : Fin (S1.size a), y.val = 0 := by decide
  exact h a (x a))

theorem slab_chunks (c : Dev nD) (b : Fin 3) : slabPay (F := F) c b ⊢ iprop((∃ f, rPts (up (tr b) c) b 0 f) ∗ (∃ f, rPts (up (tr b) c) b 1 f)
    ∗ (∃ f, rPts (up (tr b) c) b 2 f) ∗ (∃ f, rPts (up (tr b) c) b 3 f)) := by
  unfold slabPay
  rw [bigSep_univ_eq_bigSepL [0, 1, 2, 3] (by decide) (by decide)]
  exact Entails.of_eq rfl

set_option cleanup.letToHave false in
set_option maxHeartbeats 2000000 in
theorem sound_body (c : Dev nD) (W : Waits sig Unit) (f0 f1 : _) (gx gw g8 g9 gs go gv : _)  :
  iprop(records m K
    ∗ levAts L lv
    ∗ owes (c : Thread nD τ) (O₀ c) W
    ∗ pts (Memref.whole cc0_stg0_0) c fullShare f0
    ∗ pts (Memref.whole cc0_stg1_0) c fullShare f1
    ∗ ownSlab c 0
    ∗ ownSlab c 1
    ∗ ownSlab c 2
    ∗ dutyTok ER (barCell (dn 0 c)) 0 0
    ∗ dutyTok ER (barCell (dn 1 c)) 0 1
    ∗ dutyTok ER (barCell (dn 2 c)) 0 2
    ∗ cred (tallyAt (barCell c) () 3)
    ∗ atPos ER (barCell c) 0 ∅ 0
    ∗ pts xM c (Transfers.shareTok fullShare 2 0) (xArg m c)
    ∗ pts xM c (Transfers.shareTok fullShare 2 1) (xArg m c)
    ∗ pts wM c (Transfers.shareTok fullShare 3 0) (wArg m c)
    ∗ pts wM c (Transfers.shareTok fullShare 3 1) (wArg m c)
    ∗ pts wM c (Transfers.shareTok fullShare 3 2) (wArg m c)
    ∗ pts (xSlot 0) c fullShare gx
    ∗ pts (xSlot 1) c fullShare gx
    ∗ pts (xSlot 2) c fullShare gx
    ∗ pts (xSlot 3) c fullShare gx
    ∗ pts (wSlot 0) c fullShare gw
    ∗ pts (wSlot 1) c fullShare gw
    ∗ pts (wSlot 2) c fullShare gw
    ∗ semVal ((c : Thread nD τ), .dma 2) 0
    ∗ semVal ((c : Thread nD τ), .dma 3) 0
    ∗ semVal ((c : Thread nD τ), .dma 4) 0
    ∗ semVal ((c : Thread nD τ), .dma 5) 0
    ∗ semVal ((c : Thread nD τ), .dma 6) 0
    ∗ semVal ((c : Thread nD τ), .dma 7) 0
    ∗ semVal ((c : Thread nD τ), .dma 8) 0
    ∗ pts x8M c fullShare g8
    ∗ pts w8M c fullShare g9
    ∗ pts (sChunk 0 0) c fullShare gs
    ∗ pts (sChunk 0 1) c fullShare gs
    ∗ pts (sChunk 0 2) c fullShare gs
    ∗ pts (sChunk 0 3) c fullShare gs
    ∗ pts (sChunk 1 0) c fullShare gs
    ∗ pts (sChunk 1 1) c fullShare gs
    ∗ pts (sChunk 1 2) c fullShare gs
    ∗ pts (sChunk 1 3) c fullShare gs
    ∗ pts (sChunk 2 0) c fullShare gs
    ∗ pts (sChunk 2 1) c fullShare gs
    ∗ pts (sChunk 2 2) c fullShare gs
    ∗ pts (sChunk 2 3) c fullShare gs
    ∗ dutyTok ER (sndCell c 0 0) 0 0
    ∗ dutyTok ER (rcvCell (up (tr 0) c) 0 0) 0 0
    ∗ dutyTok ER (sndCell c 0 1) 0 0
    ∗ dutyTok ER (rcvCell (up (tr 0) c) 0 1) 0 0
    ∗ dutyTok ER (sndCell c 0 2) 0 0
    ∗ dutyTok ER (rcvCell (up (tr 0) c) 0 2) 0 0
    ∗ dutyTok ER (sndCell c 0 3) 0 0
    ∗ dutyTok ER (rcvCell (up (tr 0) c) 0 3) 0 0
    ∗ dutyTok ER (sndCell c 1 0) 0 0
    ∗ dutyTok ER (rcvCell (up (tr 1) c) 1 0) 0 0
    ∗ dutyTok ER (sndCell c 1 1) 0 0
    ∗ dutyTok ER (rcvCell (up (tr 1) c) 1 1) 0 0
    ∗ dutyTok ER (sndCell c 1 2) 0 0
    ∗ dutyTok ER (rcvCell (up (tr 1) c) 1 2) 0 0
    ∗ dutyTok ER (sndCell c 1 3) 0 0
    ∗ dutyTok ER (rcvCell (up (tr 1) c) 1 3) 0 0
    ∗ dutyTok ER (sndCell c 2 0) 0 0
    ∗ dutyTok ER (rcvCell (up (tr 2) c) 2 0) 0 0
    ∗ dutyTok ER (sndCell c 2 1) 0 0
    ∗ dutyTok ER (rcvCell (up (tr 2) c) 2 1) 0 0
    ∗ dutyTok ER (sndCell c 2 2) 0 0
    ∗ dutyTok ER (rcvCell (up (tr 2) c) 2 2) 0 0
    ∗ dutyTok ER (sndCell c 2 3) 0 0
    ∗ dutyTok ER (rcvCell (up (tr 2) c) 2 3) 0 0
    ∗ pts (oSlot 0) c fullShare go
    ∗ pts (oSlot 1) c fullShare go
    ∗ semVal ((c : Thread nD τ), .dma 33) 0
    ∗ semVal ((c : Thread nD τ), .dma 34) 0
    ∗ pts (oRow0 c) c fullShare gv
    ∗ pts (oRow1 c) c fullShare gv
    ∗ pts (oRow2 c) c fullShare gv
    ∗ pts (oRow3 c) c fullShare gv
    ∗ atPos ER (sndCell c 0 0) 0 ∅ 0
    ∗ atPos ER (rcvCell c 0 0) 0 ∅ 0
    ∗ cred (tallyAt (rcvCell c 0 0) () N)
    ∗ atPos ER (sndCell c 0 1) 0 ∅ 0
    ∗ atPos ER (rcvCell c 0 1) 0 ∅ 0
    ∗ cred (tallyAt (rcvCell c 0 1) () N)
    ∗ atPos ER (sndCell c 0 2) 0 ∅ 0
    ∗ atPos ER (rcvCell c 0 2) 0 ∅ 0
    ∗ cred (tallyAt (rcvCell c 0 2) () N)
    ∗ atPos ER (sndCell c 0 3) 0 ∅ 0
    ∗ atPos ER (rcvCell c 0 3) 0 ∅ 0
    ∗ cred (tallyAt (rcvCell c 0 3) () N)
    ∗ atPos ER (sndCell c 1 0) 0 ∅ 0
    ∗ atPos ER (rcvCell c 1 0) 0 ∅ 0
    ∗ cred (tallyAt (rcvCell c 1 0) () N)
    ∗ atPos ER (sndCell c 1 1) 0 ∅ 0
    ∗ atPos ER (rcvCell c 1 1) 0 ∅ 0
    ∗ cred (tallyAt (rcvCell c 1 1) () N)
    ∗ atPos ER (sndCell c 1 2) 0 ∅ 0
    ∗ atPos ER (rcvCell c 1 2) 0 ∅ 0
    ∗ cred (tallyAt (rcvCell c 1 2) () N)
    ∗ atPos ER (sndCell c 1 3) 0 ∅ 0
    ∗ atPos ER (rcvCell c 1 3) 0 ∅ 0
    ∗ cred (tallyAt (rcvCell c 1 3) () N)
    ∗ atPos ER (sndCell c 2 0) 0 ∅ 0
    ∗ atPos ER (rcvCell c 2 0) 0 ∅ 0
    ∗ cred (tallyAt (rcvCell c 2 0) () N)
    ∗ atPos ER (sndCell c 2 1) 0 ∅ 0
    ∗ atPos ER (rcvCell c 2 1) 0 ∅ 0
    ∗ cred (tallyAt (rcvCell c 2 1) () N)
    ∗ atPos ER (sndCell c 2 2) 0 ∅ 0
    ∗ atPos ER (rcvCell c 2 2) 0 ∅ 0
    ∗ cred (tallyAt (rcvCell c 2 2) () N)
    ∗ atPos ER (sndCell c 2 3) 0 ∅ 0
    ∗ atPos ER (rcvCell c 2 3) 0 ∅ 0
    ∗ cred (tallyAt (rcvCell c 2 3) () N))
   ⊢ wp frame (wpE (defs₀ (F := F)) 𝒱₀ c none) Set.univ (bodyAt0 t0_0) (fun _ => Done m c f0 f1) := by
  show _ ⊢ wp frame (wpE (defs₀ (F := F)) 𝒱₀ c none) Set.univ (cc0_body (Memref.whole main_arg0) (Memref.isWhole_whole _) (Memref.whole main_arg1) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11) (fun _ => Done m c f0 f1)
  iintro ⟨#HR, #Hlev, HO, Hs0, Hs1, Hr0, Hr1, Hr2, Ht0, Ht1, Ht2, Hc, Hat, Hx0, Hx1, Hw0, Hw1, Hw2, HX0, HX1, HX2, HX3, HW0, HW1, HW2, Hd2, Hd3, Hd4, Hd5, Hd6, Hd7, Hd8, H8, H9, S00, S01, S02, S03, S10, S11, S12, S13, S20, S21, S22, S23, T00, U00, T01, U01, T02, U02, T03, U03, T10, U10, T11, U11, T12, U12, T13, U13, T20, U20, T21, U21, T22, U22, T23, U23, Ho0, Ho1, Hd33, Hd34, V0, V1, V2, V3, A00, B00, D00, A01, B01, D01, A02, B02, D02, A03, B03, D03, A10, B10, D10, A11, B11, D11, A12, B12, D12, A13, B13, D13, A20, B20, D20, A21, B21, D21, A22, B22, D22, A23, B23, D23⟩
  unfold pts
  have hmw : ∀ n (q : DmaSem sig), q.val < 9 → (levAts L lv : sProp 𝕄) ⊢ MayWait (c : Thread nD τ) (.dma q) () (owed c n) := mayWait_local c
  have hm0 : ∀ q : DmaSem sig, (levAts L lv : sProp 𝕄) ⊢ MayWait (c : Thread nD τ) (.dma q) () 0 := fun q => by rw [MayWait_zero]; iintro -; iempintro
  sl_exec
  iapply (wp_ready m K c 1 _ (dev1 c) _ (by decide) (owedBar c 2) _ W rfl) $$ [HO Ht1 Hr1]
  · isplitr; · iexact HR
    isplitl [Hr1]; · iexact Hr1
    isplitl [HO]; · iexact HO
    iexact Ht1
  iintro HO
  sl_exec
  iapply (wp_ready m K c 2 _ (dev2 c) _ (by decide) (owedBar c 1) _ W rfl) $$ [HO Ht2 Hr2]
  · isplitr; · iexact HR
    isplitl [Hr2]; · iexact Hr2
    isplitl [HO]; · iexact HO
    iexact Ht2
  iintro HO
  sl_exec
  iapply (wp_ready m K c 0 _ (dev3 c) _ (by decide) (owedBar c 0) _ W rfl) $$ [HO Ht0 Hr0]
  · isplitr; · iexact HR
    isplitl [Hr0]; · iexact Hr0
    isplitl [HO]; · iexact HO
    iexact Ht0
  iintro HO
  sl_exec
  iapply (wp_bar m K c 12 _ (by decide) W) $$ [HO Hc Hat]
  · isplitr; · iexact HR
    isplitr; · iexact Hlev
    isplitl [HO]; · iexact HO
    isplitl [Hc]; · iexact Hc
    iexact Hat
  iintro ⟨⟨%W1, HO⟩, Hp0, Hp1, Hp2, Hz⟩
  ihave Hq := (slab_chunks c 0) $$ Hp0
  icases Hq with ⟨R00, R01, R02, R03⟩
  ihave Hq := (slab_chunks c 1) $$ Hp1
  icases Hq with ⟨R10, R11, R12, R13⟩
  ihave Hq := (slab_chunks c 2) $$ Hp2
  icases Hq with ⟨R20, R21, R22, R23⟩
  sl_exec
  have hX1 : GX m c [0] (sound_body.sl.H8_1 m c) :=
    GX.cons 0 (x_piece m c 0 k0_pay4 (fun _ => rfl) _ _ (slot_load xsM _ _ _ _ _ _ _) (fun _ => rfl)) (GX.nil m c)
  have hW2 : GW m c [(0, 1), (0, 0)] (sound_body.sl.H9_2 m c) :=
    GW.cons (0, 1) (w_piece m c 0 1 k0_pay3 (fun _ => rfl) _ _ _ _ (off2_eq c).1 (slot_load wsM _ _ _ _ _ _ _) (fun _ => rfl))
      (GW.cons (0, 0) (w_piece m c 0 0 k0_pay2 (fun _ => rfl) _ _ _ _ (off1_eq c).1 (slot_load wsM _ _ _ _ _ _ _) (fun _ => rfl)) (GW.nil m c))
  have hs00 : ((sChunk 0 0).view.loc (c : Thread nD τ) ↦[(sChunk 0 0).view.set]{fullShare} sound_body.sl.S00_w1 m c gs) = sPts c 0 0 (sendVal m c) :=
    sent m c 0 0 gs _ (dot_eq m k0_pay5 (fun _ _ => rfl) hX1 hW2 0 0 (by decide) (by decide) (by decide))
  ihave S00 := (Entails.of_eq hs00) $$ S00
  iapply (wp_send m K c 0 0 _ (dev4 c) (owed c 11) _ rfl _) $$ [S00 R00 HO T00 U00]
  · isplitr; · iexact HR
    isplitl [S00]; · iexact S00
    isplitl [R00]; · iexact R00
    isplitl [HO]; · iexact HO
    isplitl [T00]; · iexact T00
    iexact U00
  iintro ⟨C00, HO⟩
  sl_exec
  have hW4 : GW m c [(1, 1), (1, 0), (0, 1), (0, 0)] (sound_body.sl.H9_4 m c) :=
    GW.cons (1, 1) (w_piece m c 1 1 (fun v => k0_pay8 (k0_pay7 v)) (fun _ => rfl) _ _ _ _ (off2_eq c).2.1 (slot_load wsM _ _ _ _ _ _ _) (fun _ => rfl))
      (GW.cons (1, 0) (w_piece m c 1 0 k0_pay6 (fun _ => rfl) _ _ _ _ (off1_eq c).2.1 (slot_load wsM _ _ _ _ _ _ _) (fun _ => rfl)) hW2)
  have hs10 : ((sChunk 1 0).view.loc (c : Thread nD τ) ↦[(sChunk 1 0).view.set]{fullShare} sound_body.sl.S10_w1 m c gs) = sPts c 1 0 (sendVal m c) :=
    sent m c 1 0 gs _ (dot_eq m k0_pay9 (fun _ _ => rfl) hX1 hW4 1 0 (by decide) (by decide) (by decide))
  ihave S10 := (Entails.of_eq hs10) $$ S10
  iapply (wp_send m K c 1 0 _ (dev5 c) (owed c 10) _ rfl _) $$ [S10 R10 HO T10 U10]
  · isplitr; · iexact HR
    isplitl [S10]; · iexact S10
    isplitl [R10]; · iexact R10
    isplitl [HO]; · iexact HO
    isplitl [T10]; · iexact T10
    iexact U10
  iintro ⟨C10, HO⟩
  sl_exec
  have hX2 : GX m c [1, 0] (sound_body.sl.H8_2 m c) :=
    GX.cons 1 (x_piece m c 1 (fun v => k0_pay11 (k0_pay10 v)) (fun _ => rfl) _ _ (slot_load xsM _ _ _ _ _ _ _) (fun _ => rfl)) hX1
  have hs01 : ((sChunk 0 1).view.loc (c : Thread nD τ) ↦[(sChunk 0 1).view.set]{fullShare} sound_body.sl.S01_w1 m c gs) = sPts c 0 1 (sendVal m c) :=
    sent m c 0 1 gs _ (dot_eq m k0_pay12 (fun _ _ => rfl) hX2 hW4 0 1 (by decide) (by decide) (by decide))
  ihave S01 := (Entails.of_eq hs01) $$ S01
  iapply (wp_send m K c 0 1 _ (dev6 c) (owed c 9) _ rfl _) $$ [S01 R01 HO T01 U01]
  · isplitr; · iexact HR
    isplitl [S01]; · iexact S01
    isplitl [R01]; · iexact R01
    isplitl [HO]; · iexact HO
    isplitl [T01]; · iexact T01
    iexact U01
  iintro ⟨C01, HO⟩
  sl_exec
  have hs11 : ((sChunk 1 1).view.loc (c : Thread nD τ) ↦[(sChunk 1 1).view.set]{fullShare} sound_body.sl.S11_w1 m c gs) = sPts c 1 1 (sendVal m c) :=
    sent m c 1 1 gs _ (dot_eq m k0_pay13 (fun _ _ => rfl) hX2 hW4 1 1 (by decide) (by decide) (by decide))
  ihave S11 := (Entails.of_eq hs11) $$ S11
  iapply (wp_send m K c 1 1 _ (dev7 c) (owed c 8) _ rfl _) $$ [S11 R11 HO T11 U11]
  · isplitr; · iexact HR
    isplitl [S11]; · iexact S11
    isplitl [R11]; · iexact R11
    isplitl [HO]; · iexact HO
    isplitl [T11]; · iexact T11
    iexact U11
  iintro ⟨C11, HO⟩
  sl_exec
  have hX3 : GX m c [2, 1, 0] (sound_body.sl.H8_3 m c) :=
    GX.cons 2 (x_piece m c 2 k0_pay14 (fun _ => rfl) _ _ (slot_load xsM _ _ _ _ _ _ _) (fun _ => rfl)) hX2
  have hs02 : ((sChunk 0 2).view.loc (c : Thread nD τ) ↦[(sChunk 0 2).view.set]{fullShare} sound_body.sl.S02_w1 m c gs) = sPts c 0 2 (sendVal m c) :=
    sent m c 0 2 gs _ (dot_eq m k0_pay15 (fun _ _ => rfl) hX3 hW4 0 2 (by decide) (by decide) (by decide))
  ihave S02 := (Entails.of_eq hs02) $$ S02
  iapply (wp_send m K c 0 2 _ (dev8 c) (owed c 7) _ rfl _) $$ [S02 R02 HO T02 U02]
  · isplitr; · iexact HR
    isplitl [S02]; · iexact S02
    isplitl [R02]; · iexact R02
    isplitl [HO]; · iexact HO
    isplitl [T02]; · iexact T02
    iexact U02
  iintro ⟨C02, HO⟩
  sl_exec
  have hs12 : ((sChunk 1 2).view.loc (c : Thread nD τ) ↦[(sChunk 1 2).view.set]{fullShare} sound_body.sl.S12_w1 m c gs) = sPts c 1 2 (sendVal m c) :=
    sent m c 1 2 gs _ (dot_eq m k0_pay16 (fun _ _ => rfl) hX3 hW4 1 2 (by decide) (by decide) (by decide))
  ihave S12 := (Entails.of_eq hs12) $$ S12
  iapply (wp_send m K c 1 2 _ (dev9 c) (owed c 6) _ rfl _) $$ [S12 R12 HO T12 U12]
  · isplitr; · iexact HR
    isplitl [S12]; · iexact S12
    isplitl [R12]; · iexact R12
    isplitl [HO]; · iexact HO
    isplitl [T12]; · iexact T12
    iexact U12
  iintro ⟨C12, HO⟩
  sl_exec
  have hX4 : GX m c [3, 2, 1, 0] (sound_body.sl.H8_4 m c) :=
    GX.cons 3 (x_piece m c 3 k0_pay17 (fun _ => rfl) _ _ (slot_load xsM _ _ _ _ _ _ _) (fun _ => rfl)) hX3
  have hs03 : ((sChunk 0 3).view.loc (c : Thread nD τ) ↦[(sChunk 0 3).view.set]{fullShare} sound_body.sl.S03_w1 m c gs) = sPts c 0 3 (sendVal m c) :=
    sent m c 0 3 gs _ (dot_eq m k0_pay18 (fun _ _ => rfl) hX4 hW4 0 3 (by decide) (by decide) (by decide))
  ihave S03 := (Entails.of_eq hs03) $$ S03
  iapply (wp_send m K c 0 3 _ (dev10 c) (owed c 5) _ rfl _) $$ [S03 R03 HO T03 U03]
  · isplitr; · iexact HR
    isplitl [S03]; · iexact S03
    isplitl [R03]; · iexact R03
    isplitl [HO]; · iexact HO
    isplitl [T03]; · iexact T03
    iexact U03
  iintro ⟨C03, HO⟩
  sl_exec
  have hs13 : ((sChunk 1 3).view.loc (c : Thread nD τ) ↦[(sChunk 1 3).view.set]{fullShare} sound_body.sl.S13_w1 m c gs) = sPts c 1 3 (sendVal m c) :=
    sent m c 1 3 gs _ (dot_eq m k0_pay19 (fun _ _ => rfl) hX4 hW4 1 3 (by decide) (by decide) (by decide))
  ihave S13 := (Entails.of_eq hs13) $$ S13
  iapply (wp_send m K c 1 3 _ (dev11 c) (owed c 4) _ rfl _) $$ [S13 R13 HO T13 U13]
  · isplitr; · iexact HR
    isplitl [S13]; · iexact S13
    isplitl [R13]; · iexact R13
    isplitl [HO]; · iexact HO
    isplitl [T13]; · iexact T13
    iexact U13
  iintro ⟨C13, HO⟩
  sl_exec
  have hW6 : GW m c [(2, 1), (2, 0), (1, 1), (1, 0), (0, 1), (0, 0)] (sound_body.sl.H9_6 m c) :=
    GW.cons (2, 1) (w_piece m c 2 1 k0_pay21 (fun _ => rfl) _ _ _ _ (off2_eq c).2.2.1 (slot_load wsM _ _ _ _ _ _ _) (fun _ => rfl))
      (GW.cons (2, 0) (w_piece m c 2 0 k0_pay20 (fun _ => rfl) _ _ _ _ (off1_eq c).2.2.1 (slot_load wsM _ _ _ _ _ _ _) (fun _ => rfl)) hW4)
  have hs20 : ((sChunk 2 0).view.loc (c : Thread nD τ) ↦[(sChunk 2 0).view.set]{fullShare} sound_body.sl.S20_w1 m c gs) = sPts c 2 0 (sendVal m c) :=
    sent m c 2 0 gs _ (dot_eq m k0_pay22 (fun _ _ => rfl) hX4 hW6 2 0 (by decide) (by decide) (by decide))
  ihave S20 := (Entails.of_eq hs20) $$ S20
  iapply (wp_send m K c 2 0 _ (dev12 c) (owed c 3) _ rfl _) $$ [S20 R20 HO T20 U20]
  · isplitr; · iexact HR
    isplitl [S20]; · iexact S20
    isplitl [R20]; · iexact R20
    isplitl [HO]; · iexact HO
    isplitl [T20]; · iexact T20
    iexact U20
  iintro ⟨C20, HO⟩
  sl_exec
  have hs21 : ((sChunk 2 1).view.loc (c : Thread nD τ) ↦[(sChunk 2 1).view.set]{fullShare} sound_body.sl.S21_w1 m c gs) = sPts c 2 1 (sendVal m c) :=
    sent m c 2 1 gs _ (dot_eq m k0_pay23 (fun _ _ => rfl) hX4 hW6 2 1 (by decide) (by decide) (by decide))
  ihave S21 := (Entails.of_eq hs21) $$ S21
  iapply (wp_send m K c 2 1 _ (dev13 c) (owed c 2) _ rfl _) $$ [S21 R21 HO T21 U21]
  · isplitr; · iexact HR
    isplitl [S21]; · iexact S21
    isplitl [R21]; · iexact R21
    isplitl [HO]; · iexact HO
    isplitl [T21]; · iexact T21
    iexact U21
  iintro ⟨C21, HO⟩
  sl_exec
  have hs22 : ((sChunk 2 2).view.loc (c : Thread nD τ) ↦[(sChunk 2 2).view.set]{fullShare} sound_body.sl.S22_w1 m c gs) = sPts c 2 2 (sendVal m c) :=
    sent m c 2 2 gs _ (dot_eq m k0_pay24 (fun _ _ => rfl) hX4 hW6 2 2 (by decide) (by decide) (by decide))
  ihave S22 := (Entails.of_eq hs22) $$ S22
  iapply (wp_send m K c 2 2 _ (dev14 c) (owed c 1) _ rfl _) $$ [S22 R22 HO T22 U22]
  · isplitr; · iexact HR
    isplitl [S22]; · iexact S22
    isplitl [R22]; · iexact R22
    isplitl [HO]; · iexact HO
    isplitl [T22]; · iexact T22
    iexact U22
  iintro ⟨C22, HO⟩
  sl_exec
  have hs23 : ((sChunk 2 3).view.loc (c : Thread nD τ) ↦[(sChunk 2 3).view.set]{fullShare} sound_body.sl.S23_w1 m c gs) = sPts c 2 3 (sendVal m c) :=
    sent m c 2 3 gs _ (dot_eq m k0_pay25 (fun _ _ => rfl) hX4 hW6 2 3 (by decide) (by decide) (by decide))
  ihave S23 := (Entails.of_eq hs23) $$ S23
  iapply (wp_send m K c 2 3 _ (dev15 c) (0) _ rfl _) $$ [S23 R23 HO T23 U23]
  · isplitr; · iexact HR
    isplitl [S23]; · iexact S23
    isplitl [R23]; · iexact R23
    isplitl [HO]; · iexact HO
    isplitl [T23]; · iexact T23
    iexact U23
  iintro ⟨C23, HO⟩
  sl_exec
  have hW8 : GW m c [(3, 1), (3, 0), (2, 1), (2, 0), (1, 1), (1, 0), (0, 1), (0, 0)] (sound_body.sl.H9_8 m c) :=
    GW.cons (3, 1) (w_piece m c 3 1 k0_pay27 (fun _ => rfl) _ _ _ _ (off2_eq c).2.2.2 (slot_load wsM _ _ _ _ _ _ _) (fun _ => rfl))
      (GW.cons (3, 0) (w_piece m c 3 0 k0_pay26 (fun _ => rfl) _ _ _ _ (off1_eq c).2.2.2 (slot_load wsM _ _ _ _ _ _ _) (fun _ => rfl)) hW6)
  iapply (wp_arrived m K c 0 0 _ (credit_w 0 0)) $$ [D00 HO B00]
  · isplitr; · iexact HR
    isplitl [D00]; · iexact D00
    isplitl [HO]; · iexact HO
    iexact B00
  iintro ⟨⟨%V00, HO⟩, Z00, P00⟩
  sl_exec
  iapply (wp_arrived m K c 0 1 _ (credit_w 0 1)) $$ [D01 HO B01]
  · isplitr; · iexact HR
    isplitl [D01]; · iexact D01
    isplitl [HO]; · iexact HO
    iexact B01
  iintro ⟨⟨%V01, HO⟩, Z01, P01⟩
  sl_exec
  iapply (wp_arrived m K c 0 2 _ (credit_w 0 2)) $$ [D02 HO B02]
  · isplitr; · iexact HR
    isplitl [D02]; · iexact D02
    isplitl [HO]; · iexact HO
    iexact B02
  iintro ⟨⟨%V02, HO⟩, Z02, P02⟩
  sl_exec
  iapply (wp_arrived m K c 0 3 _ (credit_w 0 3)) $$ [D03 HO B03]
  · isplitr; · iexact HR
    isplitl [D03]; · iexact D03
    isplitl [HO]; · iexact HO
    iexact B03
  iintro ⟨⟨%V03, HO⟩, Z03, P03⟩
  ihave Q0 := (slab_whole c 0 _) $$ [P00 P01 P02 P03]
  · isplitl [P00]; · iexact P00
    isplitl [P01]; · iexact P01
    isplitl [P02]; · iexact P02
    iexact P03
  sl_exec
  iapply (wp_arrived m K c 1 0 _ (credit_w 1 0)) $$ [D10 HO B10]
  · isplitr; · iexact HR
    isplitl [D10]; · iexact D10
    isplitl [HO]; · iexact HO
    iexact B10
  iintro ⟨⟨%V10, HO⟩, Z10, P10⟩
  sl_exec
  iapply (wp_arrived m K c 1 1 _ (credit_w 1 1)) $$ [D11 HO B11]
  · isplitr; · iexact HR
    isplitl [D11]; · iexact D11
    isplitl [HO]; · iexact HO
    iexact B11
  iintro ⟨⟨%V11, HO⟩, Z11, P11⟩
  sl_exec
  iapply (wp_arrived m K c 1 2 _ (credit_w 1 2)) $$ [D12 HO B12]
  · isplitr; · iexact HR
    isplitl [D12]; · iexact D12
    isplitl [HO]; · iexact HO
    iexact B12
  iintro ⟨⟨%V12, HO⟩, Z12, P12⟩
  sl_exec
  iapply (wp_arrived m K c 1 3 _ (credit_w 1 3)) $$ [D13 HO B13]
  · isplitr; · iexact HR
    isplitl [D13]; · iexact D13
    isplitl [HO]; · iexact HO
    iexact B13
  iintro ⟨⟨%V13, HO⟩, Z13, P13⟩
  ihave Q1 := (slab_whole c 1 _) $$ [P10 P11 P12 P13]
  · isplitl [P10]; · iexact P10
    isplitl [P11]; · iexact P11
    isplitl [P12]; · iexact P12
    iexact P13
  sl_exec
  iapply (wp_arrived m K c 2 0 _ (credit_w 2 0)) $$ [D20 HO B20]
  · isplitr; · iexact HR
    isplitl [D20]; · iexact D20
    isplitl [HO]; · iexact HO
    iexact B20
  iintro ⟨⟨%V20, HO⟩, Z20, P20⟩
  sl_exec
  iapply (wp_arrived m K c 2 1 _ (credit_w 2 1)) $$ [D21 HO B21]
  · isplitr; · iexact HR
    isplitl [D21]; · iexact D21
    isplitl [HO]; · iexact HO
    iexact B21
  iintro ⟨⟨%V21, HO⟩, Z21, P21⟩
  sl_exec
  iapply (wp_arrived m K c 2 2 _ (credit_w 2 2)) $$ [D22 HO B22]
  · isplitr; · iexact HR
    isplitl [D22]; · iexact D22
    isplitl [HO]; · iexact HO
    iexact B22
  iintro ⟨⟨%V22, HO⟩, Z22, P22⟩
  sl_exec
  iapply (wp_arrived m K c 2 3 _ (credit_w 2 3)) $$ [D23 HO B23]
  · isplitr; · iexact HR
    isplitl [D23]; · iexact D23
    isplitl [HO]; · iexact HO
    iexact B23
  iintro ⟨⟨%V23, HO⟩, Z23, P23⟩
  ihave Q2 := (slab_whole c 2 _) $$ [P20 P21 P22 P23]
  · isplitl [P20]; · iexact P20
    isplitl [P21]; · iexact P21
    isplitl [P22]; · iexact P22
    iexact P23
  sl_exec
  iapply (wp_departed m K c 0 0 _ (credit_s 0 0)) $$ [C00 HO A00]
  · isplitr; · iexact HR
    isplitl [C00]; · iexact C00
    isplitl [HO]; · iexact HO
    iexact A00
  iintro ⟨⟨%Y00, HO⟩, X00, O00⟩
  sl_exec
  iapply (wp_departed m K c 1 0 _ (credit_s 1 0)) $$ [C10 HO A10]
  · isplitr; · iexact HR
    isplitl [C10]; · iexact C10
    isplitl [HO]; · iexact HO
    iexact A10
  iintro ⟨⟨%Y10, HO⟩, X10, O10⟩
  sl_exec
  iapply (wp_departed m K c 0 1 _ (credit_s 0 1)) $$ [C01 HO A01]
  · isplitr; · iexact HR
    isplitl [C01]; · iexact C01
    isplitl [HO]; · iexact HO
    iexact A01
  iintro ⟨⟨%Y01, HO⟩, X01, O01⟩
  sl_exec
  iapply (wp_departed m K c 1 1 _ (credit_s 1 1)) $$ [C11 HO A11]
  · isplitr; · iexact HR
    isplitl [C11]; · iexact C11
    isplitl [HO]; · iexact HO
    iexact A11
  iintro ⟨⟨%Y11, HO⟩, X11, O11⟩
  sl_exec
  iapply (wp_departed m K c 0 2 _ (credit_s 0 2)) $$ [C02 HO A02]
  · isplitr; · iexact HR
    isplitl [C02]; · iexact C02
    isplitl [HO]; · iexact HO
    iexact A02
  iintro ⟨⟨%Y02, HO⟩, X02, O02⟩
  sl_exec
  iapply (wp_departed m K c 1 2 _ (credit_s 1 2)) $$ [C12 HO A12]
  · isplitr; · iexact HR
    isplitl [C12]; · iexact C12
    isplitl [HO]; · iexact HO
    iexact A12
  iintro ⟨⟨%Y12, HO⟩, X12, O12⟩
  sl_exec
  iapply (wp_departed m K c 0 3 _ (credit_s 0 3)) $$ [C03 HO A03]
  · isplitr; · iexact HR
    isplitl [C03]; · iexact C03
    isplitl [HO]; · iexact HO
    iexact A03
  iintro ⟨⟨%Y03, HO⟩, X03, O03⟩
  sl_exec
  iapply (wp_departed m K c 1 3 _ (credit_s 1 3)) $$ [C13 HO A13]
  · isplitr; · iexact HR
    isplitl [C13]; · iexact C13
    isplitl [HO]; · iexact HO
    iexact A13
  iintro ⟨⟨%Y13, HO⟩, X13, O13⟩
  sl_exec
  iapply (wp_departed m K c 2 0 _ (credit_s 2 0)) $$ [C20 HO A20]
  · isplitr; · iexact HR
    isplitl [C20]; · iexact C20
    isplitl [HO]; · iexact HO
    iexact A20
  iintro ⟨⟨%Y20, HO⟩, X20, O20⟩
  sl_exec
  iapply (wp_departed m K c 2 1 _ (credit_s 2 1)) $$ [C21 HO A21]
  · isplitr; · iexact HR
    isplitl [C21]; · iexact C21
    isplitl [HO]; · iexact HO
    iexact A21
  iintro ⟨⟨%Y21, HO⟩, X21, O21⟩
  sl_exec
  iapply (wp_departed m K c 2 2 _ (credit_s 2 2)) $$ [C22 HO A22]
  · isplitr; · iexact HR
    isplitl [C22]; · iexact C22
    isplitl [HO]; · iexact HO
    iexact A22
  iintro ⟨⟨%Y22, HO⟩, X22, O22⟩
  sl_exec
  iapply (wp_departed m K c 2 3 _ (credit_s 2 3)) $$ [C23 HO A23]
  · isplitr; · iexact HR
    isplitl [C23]; · iexact C23
    isplitl [HO]; · iexact HO
    iexact A23
  iintro ⟨⟨%Y23, HO⟩, X23, O23⟩
  sl_exec
  have hr : sound_body.sl.r_2 c f0 f1 = scaleOf f0 f1 :=
    congrArg₂ k0_pay1 (congrArg f0 (eq_i₀ _)) (congrArg f1 (eq_i₀ _))
  have hB3 : sound_body.sl.dma10 m c f0 f1 go = shapeCast S1024x512 (outBlk m c (sound_body.sl.r_2 c f0 f1) 3) shapeCasts_S1x1024x512_S1024x512 :=
    (slot_stored osM (Rect.unit (s := S2x1024x512) ![0, 0, 0] S1x1024x512.size (inb_os 0)) (fun _ => rfl) squeezes_S1x1024x512_S1024x512 go _ shapeCasts_S1x1024x512_S1024x512).trans
      (congrArg (fun w => shapeCast S1024x512 w shapeCasts_S1x1024x512_S1024x512) (own_eq m (sound_body.sl.r_2 c f0 f1) hX4 hW8 _))
  have hB0 : sound_body.sl.dma3_3 m c f0 f1 go = shapeCast S1024x512 (outBlk m c (sound_body.sl.r_2 c f0 f1) 0) shapeCasts_S1x1024x512_S1024x512 :=
    (slot_stored osM (Rect.unit (s := S2x1024x512) ![1, 0, 0] S1x1024x512.size (inb_os 1)) (fun _ => rfl) squeezes_S1x1024x512_S1024x512 go _ shapeCasts_S1x1024x512_S1024x512).trans
      (congrArg (fun w => shapeCast S1024x512 w shapeCasts_S1x1024x512_S1024x512) (blk0_eq m c (sound_body.sl.r_2 c f0 f1)))
  have hB1 : sound_body.sl.dma3_4 m c f0 f1 go = shapeCast S1024x512 (outBlk m c (sound_body.sl.r_2 c f0 f1) 1) shapeCasts_S1x1024x512_S1024x512 :=
    (slot_stored osM (Rect.unit (s := S2x1024x512) ![0, 0, 0] S1x1024x512.size (inb_os 0)) (fun _ => rfl) squeezes_S1x1024x512_S1024x512 (sound_body.sl.Ho0_w1 m c f0 f1 go) _ shapeCasts_S1x1024x512_S1024x512).trans
      (congrArg (fun w => shapeCast S1024x512 w shapeCasts_S1x1024x512_S1024x512) (blk1_eq m c (sound_body.sl.r_2 c f0 f1)))
  have hB2 : sound_body.sl.dma3_5 m c f0 f1 go = shapeCast S1024x512 (outBlk m c (sound_body.sl.r_2 c f0 f1) 2) shapeCasts_S1x1024x512_S1024x512 :=
    (slot_stored osM (Rect.unit (s := S2x1024x512) ![1, 0, 0] S1x1024x512.size (inb_os 1)) (fun _ => rfl) squeezes_S1x1024x512_S1024x512 (sound_body.sl.Ho1_w1 m c f0 f1 go) _ shapeCasts_S1x1024x512_S1024x512).trans
      (congrArg (fun w => shapeCast S1024x512 w shapeCasts_S1x1024x512_S1024x512) (blk2_eq m c (sound_body.sl.r_2 c f0 f1)))
  rw [hr] at hB0 hB1 hB2 hB3
  have hr0 := row_done m c 0 _ _ (k0_off4_inb c 0) (rows_eq c).1 gv _ hB0
  have hr1 := row_done m c 1 _ _ (k0_off4_inb c 2) (rows_eq c).2.1 gv _ hB1
  have hr2 := row_done m c 2 _ _ (k0_off4_inb c 1) (rows_eq c).2.2.1 gv _ hB2
  have hr3 := row_done m c 3 _ _ (k0_off3_inb c) (rows_eq c).2.2.2 gv _ hB3
  unfold pts at hr0 hr1 hr2 hr3
  ihave V0 := (Entails.of_eq hr0) $$ V0
  ihave V1 := (Entails.of_eq hr1) $$ V1
  ihave V2 := (Entails.of_eq hr2) $$ V2
  ihave V3 := (Entails.of_eq hr3) $$ V3
  ihave J0 := (xs_join c) $$ [HX0 HX1 HX2 HX3]
  · unfold pts
    isplitl [HX0]; · iexists _; iexact HX0
    isplitl [HX1]; · iexists _; iexact HX1
    isplitl [HX2]; · iexists _; iexact HX2
    iexists _; iexact HX3
  ihave J1 := (ws_join c) $$ [HW0 HW1 HW2]
  · unfold pts
    isplitl [HW0]; · iexists _; iexact HW0
    isplitl [HW1]; · iexists _; iexact HW1
    iexists _; iexact HW2
  ihave J4 := (sb_join c) $$ [O00 O01 O02 O03 O10 O11 O12 O13 O20 O21 O22 O23]
  · isplitl [O00]; · iexists _; iexact O00
    isplitl [O01]; · iexists _; iexact O01
    isplitl [O02]; · iexists _; iexact O02
    isplitl [O03]; · iexists _; iexact O03
    isplitl [O10]; · iexists _; iexact O10
    isplitl [O11]; · iexists _; iexact O11
    isplitl [O12]; · iexists _; iexact O12
    isplitl [O13]; · iexists _; iexact O13
    isplitl [O20]; · iexists _; iexact O20
    isplitl [O21]; · iexists _; iexact O21
    isplitl [O22]; · iexists _; iexact O22
    iexists _; iexact O23
  ihave J5 := (rb_join c) $$ [Q0 Q1 Q2]
  · unfold pts
    isplitl [Q0]; · iexists _; iexact Q0
    isplitl [Q1]; · iexists _; iexact Q1
    iexists _; iexact Q2
  ihave J6 := (os_join c) $$ [Ho0 Ho1]
  · unfold pts
    isplitl [Ho0]; · iexists _; iexact Ho0
    iexists _; iexact Ho1
  rw [wp_ret]; imodintro
  unfold Done
  isplitl [HO]; · iexists _; iexact HO
  unfold pts
  isplitl [Hs0]; · iexact Hs0
  isplitl [Hs1]; · iexact Hs1
  isplitl [Hx0 Hx1]
  · isplitl [Hx0]; · iexact Hx0
    iexact Hx1
  isplitl [Hw0 Hw1 Hw2]
  · isplitl [Hw0]; · iexact Hw0
    isplitl [Hw1]; · iexact Hw1
    iexact Hw2
  isplitl [V0 V1 V2 V3]
  · rw [rows_split]
    unfold pts
    isplitl [V0]; · iexact V0
    isplitl [V1]; · iexact V1
    isplitl [V2]; · iexact V2
    iexact V3
  isplitl [J0 J1 H8 H9 J4 J5 J6]
  · isplitl [J0]; · iexact J0
    isplitl [J1]; · iexact J1
    isplitl [H8]; · iexists _; iapply (whole_loc cc0_scratch2 c _) $$ H8
    isplitl [H9]; · iexists _; iapply (whole_loc cc0_scratch3 c _) $$ H9
    isplitl [J4]; · iexact J4
    isplitl [J5]; · iexact J5
    iexact J6
  isplitl [Hz]; · iexact Hz
  isplitl [Hd2]; · iexact Hd2
  isplitl [Hd3]; · iexact Hd3
  isplitl [Hd4]; · iexact Hd4
  isplitl [Hd5]; · iexact Hd5
  isplitl [Hd6]; · iexact Hd6
  isplitl [Hd7]; · iexact Hd7
  isplitl [Hd8]; · iexact Hd8
  isplitl [X00]; · iexact X00
  isplitl [X01]; · iexact X01
  isplitl [X02]; · iexact X02
  isplitl [X03]; · iexact X03
  isplitl [X10]; · iexact X10
  isplitl [X11]; · iexact X11
  isplitl [X12]; · iexact X12
  isplitl [X13]; · iexact X13
  isplitl [X20]; · iexact X20
  isplitl [X21]; · iexact X21
  isplitl [X22]; · iexact X22
  isplitl [X23]; · iexact X23
  isplitl [Z00]; · iexact Z00
  isplitl [Z01]; · iexact Z01
  isplitl [Z02]; · iexact Z02
  isplitl [Z03]; · iexact Z03
  isplitl [Z10]; · iexact Z10
  isplitl [Z11]; · iexact Z11
  isplitl [Z12]; · iexact Z12
  isplitl [Z13]; · iexact Z13
  isplitl [Z20]; · iexact Z20
  isplitl [Z21]; · iexact Z21
  isplitl [Z22]; · iexact Z22
  isplitl [Z23]; · iexact Z23
  isplitl [Hd33]; · iexact Hd33
  iexact Hd34

end Cert.KernelIdeal.Exchange

end
-- ==== Proof.KernelIdeal.Deal.lean ====
/-
# What each device starts from

The launch makes every cell's invariant, deals the duties' tokens to the devices that pay them, and gives each device the
credit for what the others owe it.
-/
module

public import proofs.«01_k».proof.Proof.KernelIdeal.Steps

@[expose] public section

set_option maxRecDepth 16384

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Tokens -/

/-- A device's duties: the three of its barrier cell, and one for each send and each receive cell. -/
abbrev TI : Type := Fin 3 ⊕ (Bool × Fin 3 × Fin 4)

theorem kcell_some (c : Dev nD) (t : Bool × Fin 3 × Fin 4) : ∃ q, slot q = some t ∧ kcell (c, some t) = ((c : Thread nD τ), .dma q) := by
  obtain ⟨x, b, k⟩ := t
  cases x
  · exact ⟨_, slot_snd b k, rfl⟩
  · exact ⟨_, slot_rcv b k, rfl⟩
theorem kcell_dev (ck : Dev nD × CI) : (kcell ck).1.1 = ck.1 := by
  obtain ⟨c, _ | t⟩ := ck
  · rfl
  · obtain ⟨q, -, h⟩ := kcell_some c t; rw [h]
theorem kcell_injective : Function.Injective (kcell : Dev nD × CI → GSem nD τ sig) := by
  rintro ⟨c, k⟩ ⟨c', k'⟩ h
  have h1 : c = c' := (kcell_dev (c, k)).symm.trans ((congrArg (fun g : GSem nD τ sig => g.1.1) h).trans (kcell_dev (c', k')))
  subst h1
  rcases k with _ | t <;> rcases k' with _ | t'
  · rfl
  · obtain ⟨q, -, e⟩ := kcell_some c t'; rw [e] at h; cases congrArg Prod.snd h
  · obtain ⟨q, -, e⟩ := kcell_some c t; rw [e] at h; cases congrArg Prod.snd h
  · obtain ⟨q, hq, e⟩ := kcell_some c t; obtain ⟨q', hq', e'⟩ := kcell_some c t'
    rw [e, e'] at h
    have hqq : q = q' := by injection congrArg Prod.snd h
    subst hqq
    rw [← hq, ← hq']

/-- The cells of the whole exchange. -/
def ringCells : Finset (GSem nD τ sig) := Finset.univ.map ⟨kcell, kcell_injective⟩

/-- A device's duty, as the schedule names it. -/
def tokOf (ci : Dev nD × TI) : GSem nD τ sig × ℕ × Fin 3 := match ci.2 with
  | .inl b => (barCell ci.1, 0, b)
  | .inr t => (kcell (ci.1, some t), 0, 0)
theorem tokOf_injective : Function.Injective (tokOf : Dev nD × TI → GSem nD τ sig × ℕ × Fin 3) := by
  rintro ⟨c, i⟩ ⟨c', i'⟩ h
  have hg := congrArg Prod.fst h
  rcases i with b | t <;> rcases i' with b' | t'
  · have e := kcell_injective (show kcell (c, none) = kcell (c', none) from hg)
    cases e; cases congrArg (fun x => x.2.2) h; rfl
  · cases kcell_injective (show kcell (c, none) = kcell (c', some t') from hg)
  · cases kcell_injective (show kcell (c, some t) = kcell (c', none) from hg)
  · cases kcell_injective (show kcell (c, some t) = kcell (c', some t') from hg); rfl
/-- The duties of the whole exchange. -/
def ringToks : Finset (GSem nD τ sig × ℕ × Fin 3) := Finset.univ.map ⟨tokOf, tokOf_injective⟩

/-- The launch element: the pipeline's cells and the exchange's. -/
def u₀ : UU := (initOf (Pipeline.cells cfgs cellOf_inj) (Pipeline.launchToks cfgs cellOf_inj), (initOf ringCells ringToks, 1))

/-- The token of a device's own duty. -/
def tok (ci : Dev nD × TI) : sProp 𝕄 := dutyTok ER (tokOf ci).1 (tokOf ci).2.1 (tokOf ci).2.2
/-- The device whose duty number `i` this device pays. -/
def rot : TI → (Dev nD ≃ Dev nD)
  | .inl b => (ring (tr b)).symm
  | .inr (false, _, _) => Equiv.refl _
  | .inr (true, b, _) => ring (tr b)
/-- The token a device pays duty number `i` with. -/
def payTok (c : Dev nD) (i : TI) : sProp 𝕄 := tok (F := F) (rot i c, i)

/-- Each duty of each device with the device that pays it. -/
def turn : Dev nD × TI ≃ Dev nD × TI :=
  ⟨fun p => (rot p.2 p.1, p.2), fun p => ((rot p.2).symm p.1, p.2),
    fun p => Prod.ext (Equiv.symm_apply_apply _ _) rfl, fun p => Prod.ext (Equiv.apply_symm_apply _ _) rfl⟩

theorem toks_around : (bigSep Finset.univ fun c : Dev nD => bigSep Finset.univ fun i : TI => tok (F := F) (c, i))
    = bigSep Finset.univ fun c : Dev nD => bigSep Finset.univ fun i : TI => payTok (F := F) c i := by
  rw [← bigSep_univ_prod (fun p : Dev nD × TI => tok (F := F) p), bigSep_univ_equiv turn, bigSep_univ_prod]; rfl

/-! ## Dealing the launch element -/

/-- What the launch element deals a device. -/
def G (c : Dev nD) : sProp 𝕄 :=
  iprop((bigSep Finset.univ fun k : CI => roundState ER (rd (F := F) m) (kcell (c, k)) 0)
    ∗ (bigSep Finset.univ fun k : CI => iprop(atPos ER (kcell (c, k)) 0 ∅ 0 ∗ reached ER (kcell (c, k)) 0))
    ∗ bigSep Finset.univ fun i : TI => tok (F := F) (c, i))

theorem own_ring : (BI.own ((embR : Emb (UB × Counters) 𝕄) (initOf ringCells ringToks, 1)) : sProp 𝕄) ⊢ BI.own (ER (initOf ringCells ringToks)) := by
  iintro H
  ihave H := (own_pair_emb (embR : Emb (UB × Counters) 𝕄) _ _) $$ H
  icases H with ⟨H, -⟩
  iexact H

theorem fund_ring : BI.own (ER (initOf ringCells ringToks)) ⊢ (|==> bigSep Finset.univ (G (F := F) m) : sProp 𝕄) := by
  have hX (Φ : GSem nD τ sig → sProp 𝕄) : bigSep ringCells Φ = bigSep Finset.univ fun c : Dev nD => bigSep Finset.univ fun k : CI => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => bigSep Finset.univ fun i : TI => tok (F := F) (c, i) := by
    unfold ringToks; rw [bigSep_map, bigSep_univ_prod]; rfl
  iintro HX
  imod (Rounds.fund ER (rd (F := F) m) ringCells ringToks) $$ HX with ⟨Hst, Hr, Hat, Htok⟩
  imodintro
  ihave Hst := (Entails.of_eq (hX fun g => roundState ER (rd (F := F) m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

/-! ## The semaphores -/

/-- The kernel's own semaphores: the local transfers', then the exchange's, then the write-backs'. -/
def osem (i : Fin 33) : SemLoc sig := .dma ⟨i.val + 2, Nat.add_lt_add_right i.isLt 2⟩

theorem ownSemFacts : Pipeline.OwnSemFacts cfg0.spec osem := by decide

/-- Every one of them at zero. -/
abbrev semsZero (c : Dev nD) : sProp 𝕄 :=
  iprop(semVal ((c : Thread nD τ), .dma 2) 0 ∗ semVal ((c : Thread nD τ), .dma 3) 0 ∗ semVal ((c : Thread nD τ), .dma 4) 0 ∗ semVal ((c : Thread nD τ), .dma 5) 0 ∗ semVal ((c : Thread nD τ), .dma 6) 0 ∗ semVal ((c : Thread nD τ), .dma 7) 0 ∗ semVal ((c : Thread nD τ), .dma 8) 0 ∗ semVal ((c : Thread nD τ), .dma 9) 0 ∗ semVal ((c : Thread nD τ), .dma 10) 0 ∗ semVal ((c : Thread nD τ), .dma 11) 0 ∗ semVal ((c : Thread nD τ), .dma 12) 0 ∗ semVal ((c : Thread nD τ), .dma 13) 0 ∗ semVal ((c : Thread nD τ), .dma 14) 0 ∗ semVal ((c : Thread nD τ), .dma 15) 0 ∗ semVal ((c : Thread nD τ), .dma 16) 0 ∗ semVal ((c : Thread nD τ), .dma 17) 0 ∗ semVal ((c : Thread nD τ), .dma 18) 0 ∗ semVal ((c : Thread nD τ), .dma 19) 0 ∗ semVal ((c : Thread nD τ), .dma 20) 0 ∗ semVal ((c : Thread nD τ), .dma 21) 0 ∗ semVal ((c : Thread nD τ), .dma 22) 0 ∗ semVal ((c : Thread nD τ), .dma 23) 0 ∗ semVal ((c : Thread nD τ), .dma 24) 0 ∗ semVal ((c : Thread nD τ), .dma 25) 0 ∗ semVal ((c : Thread nD τ), .dma 26) 0 ∗ semVal ((c : Thread nD τ), .dma 27) 0 ∗ semVal ((c : Thread nD τ), .dma 28) 0 ∗ semVal ((c : Thread nD τ), .dma 29) 0 ∗ semVal ((c : Thread nD τ), .dma 30) 0 ∗ semVal ((c : Thread nD τ), .dma 31) 0 ∗ semVal ((c : Thread nD τ), .dma 32) 0 ∗ semVal ((c : Thread nD τ), .dma 33) 0 ∗ semVal ((c : Thread nD τ), .dma 34) 0)
/-- Those of the local transfers at zero. -/
abbrev locZero (c : Dev nD) : sProp 𝕄 :=
  iprop(semVal ((c : Thread nD τ), .dma 2) 0 ∗ semVal ((c : Thread nD τ), .dma 3) 0 ∗ semVal ((c : Thread nD τ), .dma 4) 0 ∗ semVal ((c : Thread nD τ), .dma 5) 0 ∗ semVal ((c : Thread nD τ), .dma 6) 0 ∗ semVal ((c : Thread nD τ), .dma 7) 0 ∗ semVal ((c : Thread nD τ), .dma 8) 0 ∗ semVal ((c : Thread nD τ), .dma 33) 0 ∗ semVal ((c : Thread nD τ), .dma 34) 0)

theorem ownSems0_eq (c : Dev nD) : (Pipeline.ownSems0 (Ix := Unit) (Name := ℕ) (U := UU) (Lvl := ℕ) (Val := Elt F) (τ := τ) osem c : sProp 𝕄) = semsZero c := by
  rw [Pipeline.ownSems0_eq_of_list c osem (List.finRange 33) (by decide) (by decide)]; rfl
/-- The barrier semaphore is the one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- The exchange's cells one by one. -/
abbrev cis : List CI := [none, some (false, 0, 0), some (false, 0, 1), some (false, 0, 2), some (false, 0, 3), some (false, 1, 0), some (false, 1, 1), some (false, 1, 2), some (false, 1, 3), some (false, 2, 0), some (false, 2, 1), some (false, 2, 2), some (false, 2, 3), some (true, 0, 0), some (true, 0, 1), some (true, 0, 2), some (true, 0, 3), some (true, 1, 0), some (true, 1, 1), some (true, 1, 2), some (true, 1, 3), some (true, 2, 0), some (true, 2, 1), some (true, 2, 2), some (true, 2, 3)]
theorem bigSep_CI (Φ : CI → sProp 𝕄) : bigSep Finset.univ Φ = bigSepL cis Φ := bigSep_univ_eq_bigSepL cis (by decide) (by decide) Φ

theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun k : CI => semVal (kcell (c, k)) 0) ∗ locZero c) : sProp 𝕄) := by
  rw [ownSems0_eq, unscopedSems0_eq, bigSep_CI]
  show _ ⊢ iprop((semVal (kcell (c, none)) 0 ∗ semVal (kcell (c, some (false, 0, 0))) 0 ∗ semVal (kcell (c, some (false, 0, 1))) 0 ∗ semVal (kcell (c, some (false, 0, 2))) 0 ∗ semVal (kcell (c, some (false, 0, 3))) 0 ∗ semVal (kcell (c, some (false, 1, 0))) 0 ∗ semVal (kcell (c, some (false, 1, 1))) 0 ∗ semVal (kcell (c, some (false, 1, 2))) 0 ∗ semVal (kcell (c, some (false, 1, 3))) 0 ∗ semVal (kcell (c, some (false, 2, 0))) 0 ∗ semVal (kcell (c, some (false, 2, 1))) 0 ∗ semVal (kcell (c, some (false, 2, 2))) 0 ∗ semVal (kcell (c, some (false, 2, 3))) 0 ∗ semVal (kcell (c, some (true, 0, 0))) 0 ∗ semVal (kcell (c, some (true, 0, 1))) 0 ∗ semVal (kcell (c, some (true, 0, 2))) 0 ∗ semVal (kcell (c, some (true, 0, 3))) 0 ∗ semVal (kcell (c, some (true, 1, 0))) 0 ∗ semVal (kcell (c, some (true, 1, 1))) 0 ∗ semVal (kcell (c, some (true, 1, 2))) 0 ∗ semVal (kcell (c, some (true, 1, 3))) 0 ∗ semVal (kcell (c, some (true, 2, 0))) 0 ∗ semVal (kcell (c, some (true, 2, 1))) 0 ∗ semVal (kcell (c, some (true, 2, 2))) 0 ∗ semVal (kcell (c, some (true, 2, 3))) 0) ∗ locZero c)
  unfold semsZero
  iintro ⟨⟨H2, H3, H4, H5, H6, H7, H8, H9, H10, H11, H12, H13, H14, H15, H16, H17, H18, H19, H20, H21, H22, H23, H24, H25, H26, H27, H28, H29, H30, H31, H32, H33, H34⟩, HB⟩
  isplitl [HB H9 H10 H11 H12 H13 H14 H15 H16 H17 H18 H19 H20 H21 H22 H23 H24 H25 H26 H27 H28 H29 H30 H31 H32]
  · isplitl [HB]; · iexact HB
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    isplitl [H31]; · iexact H31
    iexact H32
  · unfold locZero
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H33]; · iexact H33
    iexact H34

theorem core_alloc (c : Dev nD) :
    iprop(Pipeline.ownSems0 (Ix := Unit) (Name := ℕ) (U := UU) (Lvl := ℕ) (Val := Elt F) (τ := τ) osem c ∗ unscopedSems0 c ∗ G (F := F) m c)
      ⊢ |={Set.univ}=> iprop((bigSep Finset.univ fun k : CI => iprop(∃ κ : ℕ, cellInv ER (rd (F := F) m) κ (kcell (c, k))))
          ∗ ((bigSep Finset.univ fun k : CI => iprop(atPos ER (kcell (c, k)) 0 ∅ 0 ∗ reached ER (kcell (c, k)) 0))
          ∗ locZero c ∗ bigSep Finset.univ fun i : TI => tok (F := F) (c, i))) := by
  unfold G
  iintro ⟨Hos, Hus, Hst, Hat, Htok⟩
  ihave Hv := (sems0_eq (F := F) c) $$ [Hos Hus]
  · isplitl [Hos] <;> iassumption
  icases Hv with ⟨Hv, Hl⟩
  imod (show iprop((bigSep Finset.univ fun k : CI => semVal (kcell (c, k)) 0) ∗ bigSep Finset.univ fun k : CI => roundState ER (rd (F := F) m) (kcell (c, k)) 0)
      ⊢ (|={Set.univ}=> bigSep Finset.univ fun k : CI => iprop(∃ κ : ℕ, cellInv ER (rd (F := F) m) κ (kcell (c, k))) : sProp 𝕄) from by
        rw [← bigSep_sep']
        exact (bigSep_mono fun k _ => (Rounds.body_intro ER (rd (F := F) m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Hl] <;> iassumption

/-- What a device starts from of the exchange: the record of every cell, its positions, the tokens of the duties it pays,
    and its local semaphores. -/
def G' (c : Dev nD) : sProp 𝕄 :=
  iprop(∃ K, records (F := F) m K ∗ ((bigSep Finset.univ fun k : CI => atPos ER (kcell (c, k)) 0 ∅ 0)
    ∗ locZero c ∗ bigSep Finset.univ fun i : TI => payTok (F := F) c i))

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : CI => iprop(∃ κ : ℕ, cellInv ER (rd (F := F) m) κ (kcell (c, k))))
          ∗ ((bigSep Finset.univ fun k : CI => iprop(atPos ER (kcell (c, k)) 0 ∅ 0 ∗ reached ER (kcell (c, k)) 0))
          ∗ locZero c ∗ bigSep Finset.univ fun i : TI => tok (F := F) (c, i))) : sProp 𝕄)
      ⊢ bigSep Finset.univ (G' (F := F) m) := by
  rw [bigSep_sep' Finset.univ (fun c : Dev nD => (bigSep Finset.univ fun k : CI => iprop(∃ κ : ℕ, cellInv ER (rd (F := F) m) κ (kcell (c, k))) : sProp 𝕄)),
    bigSep_sep' Finset.univ (fun c : Dev nD => (bigSep Finset.univ fun k : CI => iprop(atPos ER (kcell (c, k)) 0 ∅ 0 ∗ reached ER (kcell (c, k)) 0) : sProp 𝕄)),
    bigSep_sep' Finset.univ (fun c : Dev nD => (locZero c : sProp 𝕄)), ← bigSep_univ_prod (fun ck : Dev nD × CI => iprop(∃ κ : ℕ, cellInv ER (rd (F := F) m) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄)), toks_around]
  iintro ⟨HI, ⟨Hat, #HR⟩, Hl, Htok⟩
  ihave HK := (BI.bigSep_exists_pi Finset.univ (fun (ck : Dev nD × CI) (κ : ℕ) => (cellInv ER (rd (F := F) m) κ (kcell ck) : sProp 𝕄))) $$ HI
  icases HK with ⟨%K, #HI⟩
  iapply (bigSep_with_persistent (R := records (F := F) m K)
    (Φ := fun c => iprop((bigSep Finset.univ fun k : CI => atPos ER (kcell (c, k)) 0 ∅ 0) ∗ locZero c ∗ bigSep Finset.univ fun i : TI => payTok (F := F) c i))
    fun c _ => by unfold G'; iintro H; iexists K; iexact H)
  isplitr
  · unfold records; isplitl; · iexact HI
    iexact HR
  · rw [bigSep_sep' Finset.univ (fun c : Dev nD => (bigSep Finset.univ fun k : CI => atPos ER (kcell (c, k)) 0 ∅ 0 : sProp 𝕄)),
      bigSep_sep' Finset.univ (fun c : Dev nD => (locZero c : sProp 𝕄))]
    isplitl [Hat]; · iexact Hat
    isplitl [Hl]; · iexact Hl
    iexact Htok

/-- Every device's semaphores and share of the launch element, made into what each starts from. -/
theorem glob : (bigSep Finset.univ fun c => iprop(Pipeline.ownSems0 (Ix := Unit) (Name := ℕ) (U := UU) (Lvl := ℕ) (Val := Elt F) (τ := τ) osem c ∗ unscopedSems0 c ∗ G (F := F) m c) : sProp 𝕄)
    ⊢ |={Set.univ}=> bigSep Finset.univ (G' (F := F) m) :=
  ((bigSep_mono fun c _ => core_alloc m c).trans (bigSep_fupd _ _)).trans (BI.fupd_mono (regroup m))

/-! ## The launch credit -/

theorem bar_eq_iff {a b : Dev nD} : barCell a = barCell b ↔ a = b :=
  ⟨fun h => congrArg (fun g : GSem nD τ sig => g.1.1) h, fun h => h ▸ rfl⟩
theorem rcv_eq_iff {a a' : Dev nD} {b b' : Fin 3} {k k' : Fin 4} : rcvCell a b k = rcvCell a' b' k' ↔ a = a' ∧ (b, k) = (b', k') :=
  ⟨fun h => by cases kcell_injective (show kcell (a, some (true, b, k)) = kcell (a', some (true, b', k')) from h); exact ⟨rfl, rfl⟩,
    fun ⟨h, h'⟩ => by cases h; cases h'; rfl⟩
theorem eq_dn_iff (b : Fin 4) (c d : Dev nD) : c = dn b d ↔ d = up b c := by revert b c d; decide
theorem eq_up_iff (b : Fin 4) (c d : Dev nD) : c = up b d ↔ d = dn b c := by revert b c d; decide

theorem owed_at_bar (d c : Dev nD) (n : ℕ) : owed d n (barCell c) () = 0 := by
  by_contra h
  obtain ⟨_, _, _, e⟩ := owed_pos (Nat.pos_of_ne_zero h)
  cases congrArg Prod.snd e
theorem launch_sum_bar (c : Dev nD) : ∑ d : Dev nD, O₀ d (barCell c) () = 3 := by
  have h (d : Dev nD) : O₀ d (barCell c) () = (((0 + if d = up 0 c then 1 else 0) + if d = up 2 c then 1 else 0) + if d = up 1 c then 1 else 0) := by
    unfold O₀ owedBar owedBar owedBar owedBar
    simp only [Pi.add_apply, Finsupp.add_apply, tallyAt_apply, and_true, owed_at_bar, bar_eq_iff, eq_dn_iff]
    rfl
  rw [Finset.sum_congr rfl fun d _ => h d]
  clear h; revert c; decide

theorem owed_sum (d : Dev nD) (n : ℕ) (g : GSem nD τ sig) : owed d n g ()
    = ∑ j ∈ Finset.range n, if g = rcvCell (up (tr (sq j).1) d) (sq j).1 (sq j).2 then N else 0 := by
  induction n with
  | zero => rfl
  | succ n ih =>
    unfold owed
    rw [Finset.sum_range_succ, ← ih, Pi.add_apply, Finsupp.add_apply, tallyAt_apply]
    simp only [and_true]
theorem launch_sum_rcv (c : Dev nD) (b : Fin 3) (k : Fin 4) : ∑ d : Dev nD, O₀ d (rcvCell c b k) () = N := by
  have h (d : Dev nD) : O₀ d (rcvCell c b k) () = ∑ j ∈ Finset.range 12, if (b, k) = sq j then (if d = dn (tr b) c then N else 0) else 0 := by
    have hb (x : Dev nD) : ¬ rcvCell c b k = barCell x := fun e => by cases congrArg Prod.snd e
    unfold O₀ owedBar owedBar owedBar owedBar
    simp only [Pi.add_apply, Finsupp.add_apply, tallyAt_apply, hb, false_and, if_false, Nat.add_zero]
    rw [owed_sum]
    refine Finset.sum_congr rfl fun j _ => ?_
    by_cases hj : (b, k) = sq j
    · rw [if_pos hj, ← hj]
      exact if_congr (rcv_eq_iff.trans ((and_iff_left rfl).trans (eq_up_iff _ _ _))) rfl rfl
    · rw [if_neg hj]; exact if_neg fun e => hj (rcv_eq_iff.mp e).2
  rw [Finset.sum_congr rfl fun d _ => h d, Finset.sum_comm]
  have hs (j : ℕ) : (∑ d : Dev nD, if (b, k) = sq j then (if d = dn (tr b) c then N else 0) else 0) = if (b, k) = sq j then N else 0 := by
    split
    · rw [Finset.sum_ite_eq' Finset.univ (dn (tr b) c) fun _ => N, if_pos (Finset.mem_univ _)]
    · exact Finset.sum_const_zero
  rw [Finset.sum_congr rfl fun j _ => hs j, ← Finset.sum_filter, Finset.sum_const,
    show ((Finset.range 12).filter fun j => (b, k) = sq j).card = 1 by clear hs h; revert b k; decide, one_smul]

/-- The semaphores of a device that others credit: its barrier and its receive semaphores. -/
def csem : Option (Fin 3 × Fin 4) → SemLoc sig
  | none => .reg barS
  | some t => .dma (rcvS t.1 t.2)
theorem csem_injective : Function.Injective csem := by
  rintro (_ | ⟨b, k⟩) (_ | ⟨b', k'⟩) h
  · rfl
  · cases h
  · cases h
  · have h' : rcvS b k = rcvS b' k' := by injection h
    have e := (slot_rcv b k).symm.trans ((congrArg slot h').trans (slot_rcv b' k'))
    cases e; rfl

/-- A device's launch credit: its barrier's three units and every arrival's. -/
theorem creds (c : Dev nD) : (Pipeline.launchCred O₀ c : sProp 𝕄)
    ⊢ iprop(cred (tallyAt (barCell c) () 3) ∗ bigSep Finset.univ fun t : Fin 3 × Fin 4 => cred (tallyAt (rcvCell c t.1 t.2) () N)) := by
  have hb : tallyOn (barCell c) (launchCredit (Pipeline.owing O₀) 0 (barCell c)) = (tallyAt (barCell c) () 3 : CellTallies nD τ sig Unit) := by
    unfold tallyAt; refine congrArg _ (Finsupp.ext fun u => ?_); cases u
    rw [Pipeline.launchCredit_owing, Finsupp.single_eq_same, launch_sum_bar]
  have hr (t : Fin 3 × Fin 4) : tallyOn (rcvCell c t.1 t.2) (launchCredit (Pipeline.owing O₀) 0 (rcvCell c t.1 t.2)) = (tallyAt (rcvCell c t.1 t.2) () N : CellTallies nD τ sig Unit) := by
    unfold tallyAt; refine congrArg _ (Finsupp.ext fun u => ?_); cases u
    rw [Pipeline.launchCredit_owing, Finsupp.single_eq_same, launch_sum_rcv]
  unfold Pipeline.launchCred
  refine (bigSep_subset (Finset.subset_univ (Finset.univ.map ⟨csem, csem_injective⟩))).trans ?_
  rw [bigSep_map, bigSep_univ_equiv (Equiv.optionEquivSumPUnit.{0, 0} (Fin 3 × Fin 4)).symm, bigSep_univ_sum, ← hb]
  refine (show iprop(bigSep Finset.univ _ ∗ bigSep Finset.univ _) ⊢ _ from ?_)
  exact BI.sep_comm.trans (BI.sep_mono (bigSep_elim (Finset.mem_univ PUnit.unit))
    (Entails.of_eq (bigSep_congr fun t _ => congrArg (fun x => (cred x : sProp 𝕄)) (hr t))))

end Cert.KernelIdeal.Exchange

end
-- ==== Proof.KernelIdeal.Launch.lean ====
/-
# The run

The kernel launched on the mesh: every device's kernel body runs, and the result holds what the exchange delivers.
-/
module

public import proofs.«01_k».proof.Proof.KernelIdeal.Run
public import proofs.«01_k».proof.Proof.KernelIdeal.Deal
public import Idealize.ShloMosaic.Lib.Pipeline.CollectiveSegs

@[expose] public section

set_option maxRecDepth 16384

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

/-! ## Whole buffers and shares -/

theorem whole_pts (r : Ref sig .tc) (c : Dev nD) (q : PosShare TreeShare) (f : Buf (Elt F) ((c : Thread nD τ).loc r)) :
    ((c : Thread nD τ).loc r ↦{q} f : sProp 𝕄) = pts (Memref.whole r) c q f :=
  (congrArg (fun A => ((c : Thread nD τ).loc r ↦[A]{q} f : sProp 𝕄)) (View.set_whole r)).symm

/-- An array lent to two transfers at once, and the rest of it. -/
theorem lend2 (r : Ref sig .tc) (c : Dev nD) (f : Buf (Elt F) ((c : Thread nD τ).loc r)) :
    ((c : Thread nD τ).loc r ↦{fullShare} f : sProp 𝕄) ⊣⊢ iprop(pts (Memref.whole r) c (Transfers.shareDrop fullShare 2) f
      ∗ (pts (Memref.whole r) c (Transfers.shareTok fullShare 2 0) f ∗ pts (Memref.whole r) c (Transfers.shareTok fullShare 2 1) f)) := by
  have h : ((c : Thread nD τ).loc r ↦{fullShare} f : sProp 𝕄) ⊣⊢ iprop(((c : Thread nD τ).loc r ↦{Transfers.shareDrop fullShare 2} f)
      ∗ bigSep Finset.univ fun i : Fin 2 => ((c : Thread nD τ).loc r ↦{Transfers.shareTok fullShare 2 i} f)) := Transfers.pointsTo_toks fullShare 2
  rw [bigSep_univ_eq_bigSepL [0, 1] (by decide) (by decide)] at h
  simp only [← whole_pts]
  exact h
/-- An array lent to three transfers at once, and the rest of it. -/
theorem lend3 (r : Ref sig .tc) (c : Dev nD) (f : Buf (Elt F) ((c : Thread nD τ).loc r)) :
    ((c : Thread nD τ).loc r ↦{fullShare} f : sProp 𝕄) ⊣⊢ iprop(pts (Memref.whole r) c (Transfers.shareDrop fullShare 3) f
      ∗ (pts (Memref.whole r) c (Transfers.shareTok fullShare 3 0) f ∗ pts (Memref.whole r) c (Transfers.shareTok fullShare 3 1) f
        ∗ pts (Memref.whole r) c (Transfers.shareTok fullShare 3 2) f)) := by
  have h : ((c : Thread nD τ).loc r ↦{fullShare} f : sProp 𝕄) ⊣⊢ iprop(((c : Thread nD τ).loc r ↦{Transfers.shareDrop fullShare 3} f)
      ∗ bigSep Finset.univ fun i : Fin 3 => ((c : Thread nD τ).loc r ↦{Transfers.shareTok fullShare 3 i} f)) := Transfers.pointsTo_toks fullShare 3
  rw [bigSep_univ_eq_bigSepL [0, 1, 2] (by decide) (by decide)] at h
  simp only [← whole_pts]
  exact h

/-! ## What a device holds before and after its kernel -/

/-- The scratch buffers, each at some contents. -/
abbrev scratch (c : Dev nD) : sProp 𝕄 :=
  iprop((∃ f, (c : Thread nD τ).loc cc0_scratch0 ↦{fullShare} f) ∗ (∃ f, (c : Thread nD τ).loc cc0_scratch1 ↦{fullShare} f)
    ∗ (∃ f, (c : Thread nD τ).loc cc0_scratch2 ↦{fullShare} f) ∗ (∃ f, (c : Thread nD τ).loc cc0_scratch3 ↦{fullShare} f)
    ∗ (∃ f, (c : Thread nD τ).loc cc0_scratch4 ↦{fullShare} f) ∗ (∃ f, (c : Thread nD τ).loc cc0_scratch5 ↦{fullShare} f)
    ∗ (∃ f, (c : Thread nD τ).loc cc0_scratch6 ↦{fullShare} f))
/-- The two operands and the result, at the contents `V` of the result. -/
def arrays (c : Dev nD) (V : (main_v1 : Ref sig .tc).ty.Contents (Elt F)) : sProp 𝕄 :=
  iprop(((c : Thread nD τ).loc main_arg0 ↦{fullShare} xArg m c) ∗ ((c : Thread nD τ).loc main_arg1 ↦{fullShare} wArg m c)
    ∗ ((c : Thread nD τ).loc main_v1 ↦{fullShare} V))

/-- The scales as the kernel's body finds them. -/
def sc0 (c : Dev nD) : (cc0_stg0_0 : Ref sig .tc).ty.Contents (Elt F) := (win0_0.blk (0 : Fin 1)).view.read (Elt F) (m ((c : Thread nD τ).loc main_arg2))
def sc1 (c : Dev nD) : (cc0_stg1_0 : Ref sig .tc).ty.Contents (Elt F) := (win0_1.blk (0 : Fin 1)).view.read (Elt F) (m ((c : Thread nD τ).loc main_arg3))
/-- The result of device `c`. -/
def result (c : Dev nD) : (main_v1 : Ref sig .tc).ty.Contents (Elt F) := outVal m c (scaleOf (sc0 m c) (sc1 m c))

/-- What a device starts from. -/
def start (c : Dev nD) : sProp 𝕄 :=
  iprop(G' (F := F) m c ∗ cred (tallyAt (barCell c) () 3) ∗ (bigSep Finset.univ fun t : Fin 3 × Fin 4 => cred (tallyAt (rcvCell c t.1 t.2) () N))
    ∗ levAts L lv ∗ arrays m c (m ((c : Thread nD τ).loc main_v1)))
/-- Before the kernel: the start and the scratch buffers. -/
def Φ₀ (c : Dev nD) : sProp 𝕄 := iprop(start m c ∗ scratch c)
/-- After it: the arrays, the scratch buffers, and every semaphore at zero. -/
def Φ₁ (c : Dev nD) : sProp 𝕄 := iprop(arrays m c (result m c) ∗ scratch c ∗ semVal (barCell c) 0 ∗ semsZero c)

def dats (_ : Fin 1) (c : Dev nD) : Dat τ (Elt F) Unit ℕ UU ℕ cfg0 c where
  A w := m ((cfg0.win w).arr.view.loc (c : Thread nD τ))
  after w _ := match w with
    | ⟨0, _⟩ => sc0 m c
    | ⟨1, _⟩ => sc1 m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-! ## The families, one by one -/

theorem pos_eq (c : Dev nD) : (bigSep Finset.univ fun k : CI => atPos ER (kcell (c, k)) 0 ∅ 0 : sProp 𝕄) = iprop(atPos ER (barCell c) 0 ∅ 0 ∗ atPos ER (sndCell c 0 0) 0 ∅ 0 ∗ atPos ER (sndCell c 0 1) 0 ∅ 0 ∗ atPos ER (sndCell c 0 2) 0 ∅ 0 ∗ atPos ER (sndCell c 0 3) 0 ∅ 0 ∗ atPos ER (sndCell c 1 0) 0 ∅ 0 ∗ atPos ER (sndCell c 1 1) 0 ∅ 0 ∗ atPos ER (sndCell c 1 2) 0 ∅ 0 ∗ atPos ER (sndCell c 1 3) 0 ∅ 0 ∗ atPos ER (sndCell c 2 0) 0 ∅ 0 ∗ atPos ER (sndCell c 2 1) 0 ∅ 0 ∗ atPos ER (sndCell c 2 2) 0 ∅ 0 ∗ atPos ER (sndCell c 2 3) 0 ∅ 0 ∗ atPos ER (rcvCell c 0 0) 0 ∅ 0 ∗ atPos ER (rcvCell c 0 1) 0 ∅ 0 ∗ atPos ER (rcvCell c 0 2) 0 ∅ 0 ∗ atPos ER (rcvCell c 0 3) 0 ∅ 0 ∗ atPos ER (rcvCell c 1 0) 0 ∅ 0 ∗ atPos ER (rcvCell c 1 1) 0 ∅ 0 ∗ atPos ER (rcvCell c 1 2) 0 ∅ 0 ∗ atPos ER (rcvCell c 1 3) 0 ∅ 0 ∗ atPos ER (rcvCell c 2 0) 0 ∅ 0 ∗ atPos ER (rcvCell c 2 1) 0 ∅ 0 ∗ atPos ER (rcvCell c 2 2) 0 ∅ 0 ∗ atPos ER (rcvCell c 2 3) 0 ∅ 0) := by
  rw [bigSep_CI]; rfl
theorem pay_eq (c : Dev nD) : (bigSep Finset.univ fun i : TI => payTok (F := F) c i : sProp 𝕄) = iprop(dutyTok ER (barCell (dn 0 c)) 0 0 ∗ dutyTok ER (barCell (dn 1 c)) 0 1 ∗ dutyTok ER (barCell (dn 2 c)) 0 2 ∗ dutyTok ER (sndCell c 0 0) 0 0 ∗ dutyTok ER (sndCell c 0 1) 0 0 ∗ dutyTok ER (sndCell c 0 2) 0 0 ∗ dutyTok ER (sndCell c 0 3) 0 0 ∗ dutyTok ER (sndCell c 1 0) 0 0 ∗ dutyTok ER (sndCell c 1 1) 0 0 ∗ dutyTok ER (sndCell c 1 2) 0 0 ∗ dutyTok ER (sndCell c 1 3) 0 0 ∗ dutyTok ER (sndCell c 2 0) 0 0 ∗ dutyTok ER (sndCell c 2 1) 0 0 ∗ dutyTok ER (sndCell c 2 2) 0 0 ∗ dutyTok ER (sndCell c 2 3) 0 0 ∗ dutyTok ER (rcvCell (up (tr 0) c) 0 0) 0 0 ∗ dutyTok ER (rcvCell (up (tr 0) c) 0 1) 0 0 ∗ dutyTok ER (rcvCell (up (tr 0) c) 0 2) 0 0 ∗ dutyTok ER (rcvCell (up (tr 0) c) 0 3) 0 0 ∗ dutyTok ER (rcvCell (up (tr 1) c) 1 0) 0 0 ∗ dutyTok ER (rcvCell (up (tr 1) c) 1 1) 0 0 ∗ dutyTok ER (rcvCell (up (tr 1) c) 1 2) 0 0 ∗ dutyTok ER (rcvCell (up (tr 1) c) 1 3) 0 0 ∗ dutyTok ER (rcvCell (up (tr 2) c) 2 0) 0 0 ∗ dutyTok ER (rcvCell (up (tr 2) c) 2 1) 0 0 ∗ dutyTok ER (rcvCell (up (tr 2) c) 2 2) 0 0 ∗ dutyTok ER (rcvCell (up (tr 2) c) 2 3) 0 0) := by
  rw [bigSep_univ_eq_bigSepL [.inl 0, .inl 1, .inl 2, .inr (false, 0, 0), .inr (false, 0, 1), .inr (false, 0, 2), .inr (false, 0, 3), .inr (false, 1, 0), .inr (false, 1, 1), .inr (false, 1, 2), .inr (false, 1, 3), .inr (false, 2, 0), .inr (false, 2, 1), .inr (false, 2, 2), .inr (false, 2, 3), .inr (true, 0, 0), .inr (true, 0, 1), .inr (true, 0, 2), .inr (true, 0, 3), .inr (true, 1, 0), .inr (true, 1, 1), .inr (true, 1, 2), .inr (true, 1, 3), .inr (true, 2, 0), .inr (true, 2, 1), .inr (true, 2, 2), .inr (true, 2, 3)] (by decide) (by decide)]; rfl
theorem arr_eq (c : Dev nD) : (bigSep Finset.univ fun t : Fin 3 × Fin 4 => cred (tallyAt (rcvCell c t.1 t.2) () N) : sProp 𝕄) = iprop(cred (tallyAt (rcvCell c 0 0) () N) ∗ cred (tallyAt (rcvCell c 0 1) () N) ∗ cred (tallyAt (rcvCell c 0 2) () N) ∗ cred (tallyAt (rcvCell c 0 3) () N) ∗ cred (tallyAt (rcvCell c 1 0) () N) ∗ cred (tallyAt (rcvCell c 1 1) () N) ∗ cred (tallyAt (rcvCell c 1 2) () N) ∗ cred (tallyAt (rcvCell c 1 3) () N) ∗ cred (tallyAt (rcvCell c 2 0) () N) ∗ cred (tallyAt (rcvCell c 2 1) () N) ∗ cred (tallyAt (rcvCell c 2 2) () N) ∗ cred (tallyAt (rcvCell c 2 3) () N)) := by
  rw [bigSep_univ_eq_bigSepL [(0, 0), (0, 1), (0, 2), (0, 3), (1, 0), (1, 1), (1, 2), (1, 3), (2, 0), (2, 1), (2, 2), (2, 3)] (by decide) (by decide)]; rfl

/-! ## The body -/

/-- The kernel's body from what a device holds before it to what it holds after. -/
theorem body_run (c : Dev nD) (W : Waits sig Unit) :
    iprop(Φ₀ m c ∗ owes (c : Thread nD τ) (O₀ c) W ∗ ((c : Thread nD τ).loc cc0_stg0_0 ↦{fullShare} sc0 m c) ∗ ((c : Thread nD τ).loc cc0_stg1_0 ↦{fullShare} sc1 m c))
      ⊢ wp frame (wpE (defs₀ (F := F)) 𝒱₀ c none) Set.univ (bodyAt0 t0_0) (fun _ => iprop(Φ₁ m c ∗ (∃ W, owes (c : Thread nD τ) 0 W)
        ∗ ((c : Thread nD τ).loc cc0_stg0_0 ↦{fullShare} sc0 m c) ∗ ((c : Thread nD τ).loc cc0_stg1_0 ↦{fullShare} sc1 m c))) := by
  unfold Φ₀ start G' arrays
  rw [pos_eq, pay_eq, arr_eq, whole_pts cc0_stg0_0, whole_pts cc0_stg1_0]
  iintro ⟨⟨⟨⟨%K, #HR, ⟨Hat, A00, A01, A02, A03, A10, A11, A12, A13, A20, A21, A22, A23, B00, B01, B02, B03, B10, B11, B12, B13, B20, B21, B22, B23⟩, ⟨Hd2, Hd3, Hd4, Hd5, Hd6, Hd7, Hd8, Hd33, Hd34⟩, ⟨Ht0, Ht1, Ht2, T00, T01, T02, T03, T10, T11, T12, T13, T20, T21, T22, T23, U00, U01, U02, U03, U10, U11, U12, U13, U20, U21, U22, U23⟩⟩, Hc, ⟨D00, D01, D02, D03, D10, D11, D12, D13, D20, D21, D22, D23⟩, #Hlev, Hx, Hw, Hv⟩, ⟨%gx, HX⟩, ⟨%gw, HW⟩, ⟨%g8, H8⟩, ⟨%g9, H9⟩, ⟨%gs, HS⟩, ⟨%gr, Hr⟩, ⟨%go, Ho⟩⟩, HO, Hs0, Hs1⟩
  ihave Hx := (lend2 main_arg0 c (xArg m c)).1 $$ Hx
  icases Hx with ⟨Hx, Hx0, Hx1⟩
  ihave Hw := (lend3 main_arg1 c (wArg m c)).1 $$ Hw
  icases Hw with ⟨Hw, Hw0, Hw1, Hw2⟩
  ihave HX := (xs_split c gx) $$ HX
  icases HX with ⟨HX0, HX1, HX2, HX3⟩
  ihave HW := (ws_split c gw) $$ HW
  icases HW with ⟨HW0, HW1, HW2⟩
  ihave HS := (sb_split c gs) $$ HS
  icases HS with ⟨S00, S01, S02, S03, S10, S11, S12, S13, S20, S21, S22, S23⟩
  ihave Hr := (rb_split c gr) $$ Hr
  icases Hr with ⟨Hr0, Hr1, Hr2⟩
  ihave Ho := (os_split c go) $$ Ho
  icases Ho with ⟨Ho0, Ho1⟩
  ihave Hv := (Entails.of_eq (rows_split c (m ((c : Thread nD τ).loc main_v1)))) $$ Hv
  icases Hv with ⟨V0, V1, V2, V3⟩
  ihave H8 := (Entails.of_eq (whole_pts cc0_scratch2 c fullShare g8)) $$ H8
  ihave H9 := (Entails.of_eq (whole_pts cc0_scratch3 c fullShare g9)) $$ H9
  iapply (wp_wand_r frame (wpE (defs₀ (F := F)) 𝒱₀ c none) Set.univ (Q := fun _ => Done m c (sc0 m c) (sc1 m c)))
  isplitr [Hx Hw]
  · iapply (sound_body m K c W (sc0 m c) (sc1 m c) gx gw g8 g9 gs go (m ((c : Thread nD τ).loc main_v1)))
    isplitr; · iexact HR
    isplitr; · iexact Hlev
    isplitl [HO]; · iexact HO
    isplitl [Hs0]; · iexact Hs0
    isplitl [Hs1]; · iexact Hs1
    isplitl [Hr0]; · iexact Hr0
    isplitl [Hr1]; · iexact Hr1
    isplitl [Hr2]; · iexact Hr2
    isplitl [Ht0]; · iexact Ht0
    isplitl [Ht1]; · iexact Ht1
    isplitl [Ht2]; · iexact Ht2
    isplitl [Hc]; · iexact Hc
    isplitl [Hat]; · iexact Hat
    isplitl [Hx0]; · iexact Hx0
    isplitl [Hx1]; · iexact Hx1
    isplitl [Hw0]; · iexact Hw0
    isplitl [Hw1]; · iexact Hw1
    isplitl [Hw2]; · iexact Hw2
    isplitl [HX0]; · iexact HX0
    isplitl [HX1]; · iexact HX1
    isplitl [HX2]; · iexact HX2
    isplitl [HX3]; · iexact HX3
    isplitl [HW0]; · iexact HW0
    isplitl [HW1]; · iexact HW1
    isplitl [HW2]; · iexact HW2
    isplitl [Hd2]; · iexact Hd2
    isplitl [Hd3]; · iexact Hd3
    isplitl [Hd4]; · iexact Hd4
    isplitl [Hd5]; · iexact Hd5
    isplitl [Hd6]; · iexact Hd6
    isplitl [Hd7]; · iexact Hd7
    isplitl [Hd8]; · iexact Hd8
    isplitl [H8]; · iexact H8
    isplitl [H9]; · iexact H9
    isplitl [S00]; · iexact S00
    isplitl [S01]; · iexact S01
    isplitl [S02]; · iexact S02
    isplitl [S03]; · iexact S03
    isplitl [S10]; · iexact S10
    isplitl [S11]; · iexact S11
    isplitl [S12]; · iexact S12
    isplitl [S13]; · iexact S13
    isplitl [S20]; · iexact S20
    isplitl [S21]; · iexact S21
    isplitl [S22]; · iexact S22
    isplitl [S23]; · iexact S23
    isplitl [T00]; · iexact T00
    isplitl [U00]; · iexact U00
    isplitl [T01]; · iexact T01
    isplitl [U01]; · iexact U01
    isplitl [T02]; · iexact T02
    isplitl [U02]; · iexact U02
    isplitl [T03]; · iexact T03
    isplitl [U03]; · iexact U03
    isplitl [T10]; · iexact T10
    isplitl [U10]; · iexact U10
    isplitl [T11]; · iexact T11
    isplitl [U11]; · iexact U11
    isplitl [T12]; · iexact T12
    isplitl [U12]; · iexact U12
    isplitl [T13]; · iexact T13
    isplitl [U13]; · iexact U13
    isplitl [T20]; · iexact T20
    isplitl [U20]; · iexact U20
    isplitl [T21]; · iexact T21
    isplitl [U21]; · iexact U21
    isplitl [T22]; · iexact T22
    isplitl [U22]; · iexact U22
    isplitl [T23]; · iexact T23
    isplitl [U23]; · iexact U23
    isplitl [Ho0]; · iexact Ho0
    isplitl [Ho1]; · iexact Ho1
    isplitl [Hd33]; · iexact Hd33
    isplitl [Hd34]; · iexact Hd34
    isplitl [V0]; · iexact V0
    isplitl [V1]; · iexact V1
    isplitl [V2]; · iexact V2
    isplitl [V3]; · iexact V3
    isplitl [A00]; · iexact A00
    isplitl [B00]; · iexact B00
    isplitl [D00]; · iexact D00
    isplitl [A01]; · iexact A01
    isplitl [B01]; · iexact B01
    isplitl [D01]; · iexact D01
    isplitl [A02]; · iexact A02
    isplitl [B02]; · iexact B02
    isplitl [D02]; · iexact D02
    isplitl [A03]; · iexact A03
    isplitl [B03]; · iexact B03
    isplitl [D03]; · iexact D03
    isplitl [A10]; · iexact A10
    isplitl [B10]; · iexact B10
    isplitl [D10]; · iexact D10
    isplitl [A11]; · iexact A11
    isplitl [B11]; · iexact B11
    isplitl [D11]; · iexact D11
    isplitl [A12]; · iexact A12
    isplitl [B12]; · iexact B12
    isplitl [D12]; · iexact D12
    isplitl [A13]; · iexact A13
    isplitl [B13]; · iexact B13
    isplitl [D13]; · iexact D13
    isplitl [A20]; · iexact A20
    isplitl [B20]; · iexact B20
    isplitl [D20]; · iexact D20
    isplitl [A21]; · iexact A21
    isplitl [B21]; · iexact B21
    isplitl [D21]; · iexact D21
    isplitl [A22]; · iexact A22
    isplitl [B22]; · iexact B22
    isplitl [D22]; · iexact D22
    isplitl [A23]; · iexact A23
    isplitl [B23]; · iexact B23
    iexact D23
  · iintro %_ HD
    unfold Done Φ₁ arrays
    icases HD with ⟨HO, Hs0, Hs1, Hxs, Hws, Hv, Hscr, Hb, Hsems⟩
    isplitr [HO Hs0 Hs1]
    · isplitl [Hx Hw Hxs Hws Hv]
      · isplitl [Hx Hxs]
        · iapply (lend2 main_arg0 c (xArg m c)).2
          isplitl [Hx] <;> iassumption
        isplitl [Hw Hws]
        · iapply (lend3 main_arg1 c (wArg m c)).2
          isplitl [Hw] <;> iassumption
        iexact Hv
      isplitl [Hscr]; · iexact Hscr
      isplitl [Hb] <;> iassumption
    isplitl [HO]; · iexact HO
    isplitl [Hs0] <;> iassumption

/-- A staging buffer at given contents. -/
abbrev stg (c : Dev nD) (b : Ref sig .tc) (X : b.ty.Contents (Elt F)) : sProp 𝕄 := iprop(∃ f : Buf (Elt F) ((c : Thread nD τ).loc b), ⌜f = X⌝ ∗ ((c : Thread nD τ).loc b ↦{fullShare} f))
theorem owns_whole_eq (c : Dev nD) (b : Ref sig .tc) (X : b.ty.Contents (Elt F)) : (owns (c : Thread nD τ) (Memref.whole b) fullShare X : sProp 𝕄) = stg c b X := by
  unfold owns; simp only [Memref.view_whole, View.read_whole, View.set_whole]

def bodyPre (c : Dev nD) : sProp 𝕄 :=
  iprop(Φ₀ m c ∗ (dats m 0 c).owesAt () t0_0.castSucc
    ∗ (∃ d, stg c cc0_stg0_0 ((dats m 0 c).before (0 : Fin 2) t0_0 d)) ∗ (∃ d, stg c cc0_stg1_0 ((dats m 0 c).before (1 : Fin 2) t0_0 d)))
def bodyPost (c : Dev nD) : sProp 𝕄 :=
  iprop(Φ₁ m c ∗ (dats m 0 c).owesAt () t0_0.succ ∗ stg c cc0_stg0_0 (sc0 m c) ∗ stg c cc0_stg1_0 (sc1 m c))

theorem body_obligation (c : Dev nD) : BodyObligation (dats (F := F) m 0 c) (defs₀ (F := F)) 𝒱₀ () Set.univ := fun t => by
  rw [fin_N0 t, bigSep_W0, bigSep_W0]
  simp only [owns_whole_eq]
  show bodyPre m c ⊢ wp frame (wpE (defs₀ (F := F)) 𝒱₀ c none) Set.univ (bodyAt0 t0_0) (fun _ => bodyPost m c)
  have hb0 (d) : (dats m 0 c).before (0 : Fin 2) t0_0 d = sc0 m c := by unfold Dat.before; rw [if_pos (fetch0_0 t0_0)]; rfl
  have hb1 (d) : (dats m 0 c).before (1 : Fin 2) t0_0 d = sc1 m c := by unfold Dat.before; rw [if_pos (fetch0_1 t0_0)]; rfl
  unfold bodyPre bodyPost Dat.owesAt Pipeline.owesWithin
  rw [show (dats m 0 c).owed t0_0.castSucc = O₀ c from rfl, show (dats m 0 c).owed t0_0.succ = 0 from rfl]
  iintro ⟨HΦ, ⟨%W, %hW, HO⟩, ⟨%d0, %f0, %hf0, Hs0⟩, ⟨%d1, %f1, %hf1, Hs1⟩⟩
  rw [hb0] at hf0; rw [hb1] at hf1; subst hf0; subst hf1
  iapply (wp_wand_r frame (wpE (defs₀ (F := F)) 𝒱₀ c none) Set.univ)
  isplitl [HΦ HO Hs0 Hs1]
  · iapply (body_run m c W)
    isplitl [HΦ]; · iexact HΦ
    isplitl [HO]; · iexact HO
    isplitl [Hs0] <;> iassumption
  · iintro %_ ⟨HΦ, ⟨%W', HO⟩, Hs0, Hs1⟩
    isplitl [HΦ]; · iexact HΦ
    isplitl [HO]
    · iexists W'; isplitr; · (ipureintro; exact fun _ _ => Or.inl trivial)
      iexact HO
    isplitl [Hs0]
    · iexists _; isplitr; · (ipureintro; rfl)
      iexact Hs0
    iexists _; isplitr; · (ipureintro; rfl)
    iexact Hs1

/-! ## The launch -/

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (F := F) m c)
      ⊢ |={Set.univ}=> iprop(start m c ∗ emp) := by
  rw [Pipeline.unscopedRestP_none, unscopedRest0_eq]
  iintro ⟨Ha, Hlev, Hcr, -, HG⟩
  ihave Hc := (creds (F := F) c) $$ Hcr
  icases Hc with ⟨H1, HN⟩
  imodintro
  unfold start arrays
  isplitl
  · isplitl [HG]; · iexact HG
    isplitl [H1]; · iexact H1
    isplitl [HN]; · iexact HN
    isplitl [Hlev]; · iexact Hlev
    iexact Ha
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, Hr⟩
  isplitl [Hs] <;> iassumption

/-- What a device keeps of its run: the arrays, and its barrier semaphore at zero. -/
def kept (c : Dev nD) : sProp 𝕄 := iprop(arrays m c (result m c) ∗ unscopedSems0 c)

theorem phi1_exit (c : Dev nD) :
    (dats m 0 c).Φ (Fin.last cfg0.N) ⊢ iprop(kept m c ∗ Pipeline.ownSems0 osem c ∗ Pipeline.scopedRest cfg0.spec c) := by
  rw [show (dats m 0 c).Φ (Fin.last cfg0.N) = Φ₁ m c from rfl, scopedRest0_eq, ownSems0_eq]
  unfold Φ₁ kept
  rw [unscopedSems0_eq]
  iintro ⟨Ha, Hr, Hb, Hs⟩
  isplitl [Ha Hb]
  · isplitl [Ha] <;> iassumption
  isplitl [Hs] <;> iassumption

/-- What is read of a device's memory after the run. -/
def reads (c : Dev nD) (s : MemSt nD τ sig (Elt F)) : Prop :=
  (s.mem ((c : Thread nD τ).loc main_arg0) = xArg m c ∧ s.mem ((c : Thread nD τ).loc main_arg1) = wArg m c ∧ s.mem ((c : Thread nD τ).loc main_v1) = result m c)
    ∧ ∀ sm : SemLoc sig, sm.isScoped .tc = false → s.sem ((c.tc : Thread nD τ), sm) = 0

theorem arrays_read (c : Dev nD) (V) (s' : Phys nD τ sig (Elt F)) : iprop(arrays m c V ∗ SI s')
    ⊢ (iprop(⌜s'.mem.mem ((c : Thread nD τ).loc main_arg0) = xArg m c ∧ s'.mem.mem ((c : Thread nD τ).loc main_arg1) = wArg m c ∧ s'.mem.mem ((c : Thread nD τ).loc main_v1) = V⌝ ∗ SI s') : sProp 𝕄) := by
  unfold arrays
  iintro ⟨⟨H0, H1, H2⟩, HSI⟩
  icombine HSI H0 gives %h0
  icombine HSI H1 gives %h1
  icombine HSI H2 gives %h2
  isplitr
  · ipureintro; exact ⟨Buf.eq_of_forall_mem_univ h0, Buf.eq_of_forall_mem_univ h1, Buf.eq_of_forall_mem_univ h2⟩
  · iexact HSI

theorem kept_read (c : Dev nD) (s' : Phys nD τ sig (Elt F)) : iprop(kept m c ∗ emp ∗ SI s') ⊢ (|={Set.univ}=> iprop(⌜reads m c s'.mem⌝ ∗ SI s') : sProp 𝕄) := by
  unfold kept
  iintro ⟨⟨Ha, Hu⟩, -, HSI⟩
  ihave H := (arrays_read m c _ s') $$ [Ha HSI]
  · isplitl [Ha] <;> iassumption
  icases H with ⟨%ha, HSI⟩
  imod (Pipeline.unscopedSems0_read (X := unscopedSems0 c) (c := c) fupd_intro s') $$ [Hu HSI] with ⟨%hu, HSI⟩
  · isplitl [Hu] <;> iassumption
  imodintro
  isplitr
  · ipureintro; exact ⟨ha, hu⟩
  · iexact HSI

theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait_low c _ (by fin_cases w <;> fin_cases s <;> decide) _ fun g u h => owedBar_pos h
    · show _ ⊢ MayWait _ _ _ 0
      rw [MayWait_zero]; iintro -; iempintro

/-- The arrays of the windows after the run. -/
def finalA (c : Dev nD) (w : Fin cfg0.W) : Buf (Elt F) ((cfg0.win w).arr.view.loc (c : Thread nD τ)) := (dats m 0 c).arrAt w cfg0.N

/-- Every run of the kernel on the mesh ends; then the operands and the windows' arrays are as said, every result is
    `result`, and every semaphore is zero. -/
theorem run_main : θ_run defs (onTc (τ := τ) (main (F := F))) ⟨m, fun _ => 0, ρ⟩ (fun r =>
    (∀ c : Dev nD, (∀ w : Fin cfg0.W, r.2.mem ((cfg0.win w).arr.view.loc (c : Thread nD τ)) = finalA m c w) ∧ reads m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave HX := (own_ring (F := F)) $$ HX
      imod (fund_ring m) $$ HX with HG
      imodintro
      isplitl [HP] <;> iassumption)
    (hglob := glob m)
    (hA := fun _ _ => rfl) (hpf := fun _ k => k.elim0)
    (X := start m) (Y := kept m) (Z := fun _ => iprop(emp))
    (hX := start_intro m ρ) (hin := phi0_intro m) (hout := phi1_exit m)
    (QY := reads m) (hY := kept_read m)
    (hQ := fun _ h hs => ⟨fun c => ⟨(h c).1, (h c).2.2⟩, sem_eq_zero hs fun c => (h c).2.2.2⟩)

/-- Every run of the kernel on the mesh ends; then each device's operands are what they were, its result is `result`,
    and every semaphore is zero. -/
theorem run_args : θ_run defs (onTc (τ := τ) (main (F := F))) ⟨m, fun _ => 0, ρ⟩ (fun r =>
    (∀ c : Dev nD, r.2.mem ((c : Thread nD τ).loc main_arg0) = m ((c : Thread nD τ).loc main_arg0) ∧ r.2.mem ((c : Thread nD τ).loc main_arg1) = m ((c : Thread nD τ).loc main_arg1)
      ∧ r.2.mem ((c : Thread nD τ).loc main_arg2) = m ((c : Thread nD τ).loc main_arg2) ∧ r.2.mem ((c : Thread nD τ).loc main_arg3) = m ((c : Thread nD τ).loc main_arg3)
      ∧ r.2.mem ((c : Thread nD τ).loc main_v1) = result m c) ∧ r.2.sem = fun _ => 0) :=
  (θ_run _ _ _).mono (fun r hr => ⟨fun c => ⟨(hr.1 c).2.1.1, (hr.1 c).2.1.2.1,
    ((hr.1 c).1 (0 : Fin 2)).trans ((dats (F := F) m 0 c).arrAt_in (0 : Fin 2) rfl _), ((hr.1 c).1 (1 : Fin 2)).trans ((dats (F := F) m 0 c).arrAt_in (1 : Fin 2) rfl _),
    (hr.1 c).2.1.2.2⟩, hr.2⟩) (run_main m ρ)

end Cert.KernelIdeal.Exchange

end
-- ==== Proof.KernelIdeal.Value.lean ====
/-
# The values

In exact arithmetic the result of a device is its 512 columns of the scaled product.
-/
module

public import proofs.«01_k».proof.Proof.KernelIdeal.Launch
public import Idealize.ShloMosaic.Lib.KernelVsHost
public import Idealize.ShloMosaic.Lib.StackMember
public import Idealize.ShloMosaic.Lib.Layout
public import Idealize.ShloMosaic.Lib.Pipeline.Value

@[expose] public section

set_option maxRecDepth 16384

noncomputable section

namespace Cert.KernelIdeal.Exchange

open Cert.KernelIdeal Cert.KernelIdeal.Gen
open Idealize.ShloMosaic
open Idealize.ShloMosaic.TcCoe
open Idealize.ShloMosaic.ValueIdx (ix2 ix3 eq_ix2)
open scoped BigOperators

/-! ## The body's pure steps at a position -/

/-- A product with one block of weights onto zero, at a position, is the sum over the contracted coordinate. -/
theorem matmul_at {M : ℕ} {φ ψ : FTy} (x : FVec Ideal ⟨2, ![M, 4096]⟩ φ) (w : FVec Ideal S1x4096x512 ψ) (h : S1x4096x512.ShapeCasts S4096x512)
    (r : Fin M) (l : Fin 512) :
    matmul (DotDims.plain M 4096 512) none x (shapeCast S4096x512 w h : FVec Ideal S4096x512 ψ) (constant ⟨2, ![M, 512]⟩ .f32 0x00000000#32) (ix2 r l)
      = ∑ k : Fin 4096, x (ix2 r k) * w (ix3 (0 : Fin 1) k l) := by
  have e : ∀ k : Fin 4096, shapeCast S4096x512 w h (ix2 k l) = w (ix3 (0 : Fin 1) k l) := fun k =>
    (shapeCast_dropUnit_apply ![4096, 512] w h (ix2 k l)).trans (congrArg w (funext fun a => match a with
      | ⟨0, _⟩ => rfl
      | ⟨1, _⟩ => rfl
      | ⟨2, _⟩ => rfl))
  rw [matmul_zero_eq_dotGeneral, StackMember.dotGeneral_plain_apply]
  exact Finset.sum_congr rfl fun k _ => congrArg (x (ix2 r k) * ·) (e k)

/-- A chunk of a product, at a position. -/
theorem pay5_at (x : Vec Ideal S256x4096 .fp8e4m3) (w : Vec Ideal S1x4096x512 .fp8e5m2) (y : S1x256x512.Idx) :
    k0_pay5 x w y = ∑ k : Fin 4096, x (ix2 (y 1) k) * w (ix3 (0 : Fin 1) k (y 2)) := by
  unfold k0_pay5
  refine (shapeCast_addUnit_apply ![256, 512] _ _ y).trans ?_
  refine Eq.trans ?_ (matmul_at (M := 256) (φ := .fp8e4m3) (ψ := .fp8e5m2) x w shapeCasts_S1x4096x512_S4096x512 (y 1) (y 2))
  refine congrArg (matmul (F := Ideal) (φ₁ := .fp8e4m3) (φ₂ := .fp8e5m2) (DotDims.plain 256 4096 512) none x _ _) (funext fun a => match a with
      | ⟨0, _⟩ => rfl
      | ⟨1, _⟩ => rfl)

/-- The device's own block, scaled, at a position. -/
theorem pay28_at (s : Ideal .f32) (x : Vec Ideal S1024x4096 .fp8e4m3) (w : Vec Ideal S1x4096x512 .fp8e5m2) (y : S1024x512.Idx) :
    shapeCast S1024x512 (k0_pay28 s x w) shapeCasts_S1x1024x512_S1024x512 y = (∑ k : Fin 4096, x (ix2 (y 0) k) * w (ix3 (0 : Fin 1) k (y 1))) * s := by
  unfold k0_pay28
  refine (congrFun (shapeCast_shapeCast _ shapeCasts_S1024x512_S1x1024x512 shapeCasts_S1x1024x512_S1024x512) y).trans ?_
  refine congrArg (· * s) (Eq.trans ?_ (matmul_at (M := 1024) (φ := .fp8e4m3) (ψ := .fp8e5m2) x w shapeCasts_S1x4096x512_S4096x512 (y 0) (y 1)))
  exact congrArg (matmul (F := Ideal) (φ₁ := .fp8e4m3) (φ₂ := .fp8e5m2) (DotDims.plain 1024 4096 512) none x _ _) (eq_ix2 y)

/-- A received block, scaled, at a position. -/
theorem pay29_at (s : Ideal .f32) (v : Vec Ideal S1x1024x512 .bf16) (y : S1024x512.Idx) :
    shapeCast S1024x512 (k0_pay29 s v) shapeCasts_S1x1024x512_S1024x512 y = v (ix3 (0 : Fin 1) (y 0) (y 1)) * s := by
  unfold k0_pay29
  refine (congrFun (shapeCast_shapeCast _ shapeCasts_S1024x512_S1x1024x512 shapeCasts_S1x1024x512_S1024x512) y).trans ?_
  refine congrArg (· * s) ((shapeCast_dropUnit_apply ![1024, 512] v _ y).trans (congrArg v (funext fun a => match a with
      | ⟨0, _⟩ => rfl
      | ⟨1, _⟩ => rfl
      | ⟨2, _⟩ => rfl)))

/-! ## The result at a position -/

/-- The last block is the device's own. -/
theorem dn_own : ∀ c : Dev nD, dn 3 c = c := by decide
theorem up_own : ∀ c : Dev nD, up 3 c = c := by decide

variable (m : (ℓ : Loc nD τ sig) → Buf (Elt Ideal) ℓ)

/-- The rows a device holds, and its copy of the weights. -/
abbrev rowsOf (c : Dev nD) : FVec Ideal S1024x4096 .f32 := m ((c : Thread nD τ).loc main_arg0)
abbrev wOf (c : Dev nD) : FVec Ideal S4096x2048 .f32 := m ((c : Thread nD τ).loc main_arg1)

/-- Column `l` of column block `d`. -/
def colOf (d : Dev nD) (l : Fin 512) : Fin 2048 := ⟨512 * d.val + l.val, by
  have h : d.val < 4 := d.isLt
  have h' := l.isLt
  omega⟩

/-- Row `r` of device `d`'s rows times column `l` of column block `c`. -/
def entry (d c : Dev nD) (r : Fin 1024) (l : Fin 512) : EReal := ∑ k : Fin 4096, rowsOf m d (ix2 r k) * wOf m d (ix2 k (colOf c l))

/-- The cast weights of block `b` hold column block `up b d`. -/
theorem w8_at (d : Dev nD) (b : Fin 4) (k : Fin 4096) (l : Fin 512) :
    w8M.view.readAt (Elt Ideal) (w8Rect b).toLoadRect (w8Val m d) (ix3 (0 : Fin 1) k l) = wOf m d (ix2 k (colOf (up b d) l)) := by
  have e : (w8Rect b).emb (ix3 (0 : Fin 1) k l) = (ix3 b k l : S4x4096x512.Idx) := funext fun a => match a with
    | ⟨0, _⟩ => Fin.ext (show b.val + 1 * 0 = b.val by omega)
    | ⟨1, _⟩ => Fin.ext (show 0 + 1 * k.val = k.val by omega)
    | ⟨2, _⟩ => Fin.ext (show 0 + 1 * l.val = l.val by omega)
  refine (show _ = w8Val m d ((w8Rect b).emb (ix3 (0 : Fin 1) k l)) from rfl).trans ((congrArg (w8Val m d) e).trans ?_)
  exact congrArg (wOf m d) (funext fun a => match a with
    | ⟨0, _⟩ => rfl
    | ⟨1, _⟩ => rfl)

/-- What a device sends, at a position. -/
theorem sendVal_at (d : Dev nD) (b : Fin 3) (r : Fin 1024) (l : Fin 512) :
    sendVal m d (ix3 b r l : S3x1024x512.Idx) = entry m d (up (tr b) d) r l := by
  refine (pay5_at _ _ _).trans (Finset.sum_congr rfl fun k _ => ?_)
  refine congrArg₂ (· * ·) ?_ (w8_at m d (tr b) k l)
  refine congrArg (rowsOf m d) (funext fun a => match a with
    | ⟨0, _⟩ => Fin.ext (show 256 * (r.val / 256) + 1 * (r.val % 256) = r.val by omega)
    | ⟨1, _⟩ => Fin.ext (show 0 + 1 * k.val = k.val by omega))

/-- Block `b` of the result at a position: a row of device `dn b c` times a column of column block `c`. -/
theorem outBlk_at (c : Dev nD) (s : Ideal .f32) (b : Fin 4) (y : S1024x512.Idx) :
    shapeCast S1024x512 (outBlk m c s b) shapeCasts_S1x1024x512_S1024x512 y = entry m (dn b c) c (y 0) (y 1) * s := by
  have far : ∀ b : Fin 3, shapeCast S1024x512 (k0_pay29 s (slabLoad m c b)) shapeCasts_S1x1024x512_S1024x512 y = entry m (dn (tr b) c) c (y 0) (y 1) * s := fun b => by
    refine (pay29_at s _ y).trans (congrArg (· * s) ?_)
    have e : (Rect.unit (s := S3x1024x512) ![b.val, 0, 0] S1x1024x512.size (inb_slab b)).emb (ix3 (0 : Fin 1) (y 0) (y 1)) = (ix3 b (y 0) (y 1) : S3x1024x512.Idx) := funext fun a => match a with
      | ⟨0, _⟩ => Fin.ext (show b.val + 1 * 0 = b.val by omega)
      | ⟨1, _⟩ => Fin.ext (show 0 + 1 * (y 0).val = (y 0).val by omega)
      | ⟨2, _⟩ => Fin.ext (show 0 + 1 * (y 1).val = (y 1).val by omega)
    refine (congrArg (recvVal m c) e).trans ((sendVal_at m (dn (tr b) c) b (y 0) (y 1)).trans ?_)
    rw [up_dn]
  match b with
  | 0 => exact far 0
  | 1 => exact far 1
  | 2 => exact far 2
  | 3 =>
    rw [dn_own]
    refine (pay28_at s _ _ y).trans (congrArg (· * s) (Finset.sum_congr rfl fun k _ => congrArg₂ (· * ·) rfl ?_))
    refine (w8_at m c 3 k (y 1)).trans ?_
    rw [up_own]

/-- The result at a position: the row's owner is the device whose rows those are. -/
theorem outVal_at (c : Dev nD) (s : Ideal .f32) (j : S4096x512.Idx) :
    outVal m c s j = entry m (rowDev j) c (inRow j 0) (inRow j 1) * s := by
  unfold outVal
  rw [outBlk_at, ← (blk_iff c (rowDev j) (blk c (rowDev j))).mp rfl]

/-- The two factors a device holds. -/
abbrev facA (c : Dev nD) : FVec Ideal S1 .f32 := m ((c : Thread nD τ).loc main_arg2)
abbrev facB (c : Dev nD) : FVec Ideal S1 .f32 := m ((c : Thread nD τ).loc main_arg3)

/-- The scale is the product of the two factors. -/
theorem scale_at (c : Dev nD) : scaleOf (sc0 m c) (sc1 m c) = facA m c i₀ * facB m c i₀ :=
  congrArg₂ (fun a b : EReal => a * b) (congrArg (facA m c) (eq_i₀ _)) (congrArg (facB m c) (eq_i₀ _))

/-- When the devices hold the row blocks of `X`, all of `W` and the factors `A` and `B`, each ends with its columns of the
    scaled product. -/
theorem result_eq (X : FVec Ideal ⟨2, ![4096, 4096]⟩ .f32) (W V : FVec Ideal ⟨2, ![4096, 2048]⟩ .f32) (A B : FVec Ideal S1 .f32)
    (hX : ∀ c, rowsOf m c = Layout.block ⟨2, ![1024, 4096]⟩ ⟨2, ![4096, 4096]⟩ 0 4 c X) (hW : ∀ c, wOf m c = W)
    (hA : ∀ c, facA m c = A) (hB : ∀ c, facB m c = B)
    (hV : ∀ (p : Fin 4096) (q : Fin 2048), V (ix2 p q) = (∑ k : Fin 4096, X (ix2 p k) * W (ix2 k q)) * (A i₀ * B i₀)) (c : Dev nD) :
    result m c = Layout.block ⟨2, ![4096, 512]⟩ ⟨2, ![4096, 2048]⟩ 1 4 c V := by
  have hs : scaleOf (sc0 m c) (sc1 m c) = A i₀ * B i₀ := by rw [scale_at, hA, hB]
  funext j
  have ht : Layout.Tiles ⟨2, ![4096, 512]⟩ ⟨2, ![4096, 2048]⟩ 1 4 := by decide
  refine (outVal_at m c _ j).trans (Eq.trans ?_ ((congrArg V (eq_ix2 (ht.idx c j))).trans (hV (ht.idx c j 0) (ht.idx c j 1))).symm)
  refine congrArg₂ (fun a b : EReal => a * b) (Finset.sum_congr rfl fun k _ => congrArg₂ (fun a b : EReal => a * b) ?_ ?_) hs
  · refine (congrFun (hX (rowDev j)) _).trans (congrArg X (funext fun a => match a with
      | ⟨0, _⟩ => Fin.ext (show (j 0).val / 1024 * 1024 + (j 0).val % 1024 = (j 0).val by omega)
      | ⟨1, _⟩ => rfl))
  · refine (congrFun (hW (rowDev j)) _).trans (congrArg W (funext fun a => match a with
      | ⟨0, _⟩ => rfl
      | ⟨1, _⟩ => Fin.ext (show 512 * c.val + (j 1).val = c.val * 512 + (j 1).val by omega)))

end Cert.KernelIdeal.Exchange

end
-- ==== Proof.lean ====
/-
# The claims

The frames are the runs with the values dropped. The value claim compares what the two runs leave.
-/
module

public import proofs.«01_k».proof.Defs
public import proofs.«01_k».proof.Proof.Gen.ReferenceIdeal.Run
public import proofs.«01_k».proof.Proof.Kernel.Launch
public import proofs.«01_k».proof.Proof.KernelIdeal.Value

@[expose] public section

noncomputable section

namespace Cert.Proof

open Idealize.ShloMosaic Idealize.SL.Sem
open Idealize.ShloMosaic.ValueIdx (ix2)
open scoped BigOperators

/-- The kernel terminates, leaves its arguments as they were and every semaphore at zero. -/
theorem frame_kernel : Cert.quiescent_Kernel := fun m g _ =>
  (θ_run _ _ _).mono (fun r h => ⟨fun c => ⟨(h.1 c).1, (h.1 c).2.1, (h.1 c).2.2.1, (h.1 c).2.2.2.1⟩, h.2⟩) (Cert.Kernel.Exchange.run_args m g)

/-- The ideal kernel does. -/
theorem frame_ideal : Cert.quiescent_KernelIdeal := fun m g _ =>
  (θ_run _ _ _).mono (fun r h => ⟨fun c => ⟨(h.1 c).1, (h.1 c).2.1, (h.1 c).2.2.1, (h.1 c).2.2.2.1⟩, h.2⟩) (Cert.KernelIdeal.Exchange.run_args m g)

/-- The ideal reference does; it has no semaphore. -/
theorem frame_reference : Cert.quiescent_ReferenceIdeal := fun m g _ =>
  (θ_run _ _ _).mono (fun r h => ⟨fun c => (h c).2, sem_eq_zero_of_no_sems (by decide) r.2⟩) (Cert.ReferenceIdeal.Value.run m g)

/-- What the reference leaves in its result, from arguments `x`, `w`, `a` and `b`. -/
def product (x : FVec Ideal Cert.ReferenceIdeal.S4096x4096 .f32) (w : FVec Ideal Cert.ReferenceIdeal.S4096x2048 .f32) (a b : FVec Ideal Cert.ReferenceIdeal.S1 .f32) :
    FVec Ideal Cert.ReferenceIdeal.S4096x2048 .f32 :=
  mulf (Host.dotGeneral Cert.ReferenceIdeal.dot_S4096x4096_S4096x2048_S4096x2048_1_0_0_1_n_n none x w)
    (broadcastInDim Cert.ReferenceIdeal.S4096x2048 ![0, 1] Cert.ReferenceIdeal.Facts₀.bcast_S1x1_S4096x2048_0_1
      (broadcastInDim Cert.ReferenceIdeal.S1x1 ![1] Cert.ReferenceIdeal.Facts₀.bcast_S1_S1x1_1 (mulf a b)))

open Cert.KernelIdeal.Exchange (i₀ eq_i₀) in
/-- An entry of it is the sum over the contracted coordinate, scaled by the two factors. -/
theorem product_at (x : FVec Ideal Cert.ReferenceIdeal.S4096x4096 .f32) (w : FVec Ideal Cert.ReferenceIdeal.S4096x2048 .f32) (a b : FVec Ideal Cert.ReferenceIdeal.S1 .f32)
    (p : Fin 4096) (q : Fin 2048) : product x w a b (ix2 p q) = (∑ k : Fin 4096, x (ix2 p k) * w (ix2 k q)) * (a i₀ * b i₀) :=
  congrArg₂ (fun s t : EReal => s * t) (StackMember.dotGeneral_plain_apply (m := 4096) (k := 4096) (n := 2048) none x w p q)
    (congrArg (fun i => (mulf a b : FVec Ideal Cert.ReferenceIdeal.S1 .f32) i) (eq_i₀ _))

/-- From arguments that agree, each device of the ideal kernel ends with its columns of what the ideal reference computes. -/
theorem same_values : Cert.algebraic_KernelIdeal_ReferenceIdeal := fun m g m' g' _ hag =>
  ⟨product (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3)),
    (θ_run _ _ _).mono (fun r h c => ⟨(h.1 c).2.2.2.2.trans (Cert.KernelIdeal.Exchange.result_eq m
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)) _ (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
        (fun c => (hag c).1) (fun c => (hag c).2.1) (fun c => (hag c).2.2.1) (fun c => (hag c).2.2.2) (product_at _ _ _ _) c),
      (h.1 c).1, (h.1 c).2.1, (h.1 c).2.2.1, (h.1 c).2.2.2.1⟩) (Cert.KernelIdeal.Exchange.run_args m g),
    (θ_run _ _ _).mono (fun r h => h 0) (Cert.ReferenceIdeal.Value.run m' g')⟩

theorem claim : Cert.Claim := ⟨Cert.Kernel.Gen.facts, Cert.KernelIdeal.Gen.facts, Cert.ReferenceIdeal.Gen.facts,
  frame_kernel, frame_ideal, frame_reference, trivial, same_values⟩

end Cert.Proof

end
